-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S104x64x2x128 Cert.KernelIdeal.S104x64x1x128
  ∧ IdealRules.bf16_pair.PackStatement Cert.KernelIdeal.S64x128
  ∧ IdealRules.bf16_pair.Statement Cert.KernelIdeal.S1x64x2x128 Cert.KernelIdeal.S1x64x1x128
  ∧ IdealRules.bf16_pair.PackStatement Cert.KernelIdeal.S512x128
  ∧ IdealRules.bf16_pair.Statement Cert.KernelIdeal.S1024x128 Cert.KernelIdeal.S512x128
  ∧ IdealRules.bf16_pair.Statement Cert.KernelIdeal.S1x1x2x128 Cert.KernelIdeal.S1x1x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x16384 : Shape := ⟨3, ![8, 1, 16384]⟩
abbrev S8192x13312 : Shape := ⟨2, ![8192, 13312]⟩
abbrev S1024x13312 : Shape := ⟨2, ![1024, 13312]⟩
abbrev S_ : Shape := ⟨0, ![]⟩
abbrev S8x16384 : Shape := ⟨2, ![8, 16384]⟩
abbrev S1 : Shape := ⟨1, ![1]⟩
abbrev S8x13312 : Shape := ⟨2, ![8, 13312]⟩
abbrev S8x1024 : Shape := ⟨2, ![8, 1024]⟩
abbrev S512x13312 : Shape := ⟨2, ![512, 13312]⟩
abbrev S64x13312 : Shape := ⟨2, ![64, 13312]⟩
abbrev S104x64x128 : Shape := ⟨3, ![104, 64, 128]⟩
abbrev S64x128 : Shape := ⟨2, ![64, 128]⟩
abbrev S1x64x128 : Shape := ⟨3, ![1, 64, 128]⟩
abbrev S512x128 : Shape := ⟨2, ![512, 128]⟩
abbrev S1024x128 : Shape := ⟨2, ![1024, 128]⟩
abbrev S1x1x128 : Shape := ⟨3, ![1, 1, 128]⟩
abbrev S1x128 : Shape := ⟨2, ![1, 128]⟩
abbrev S8x128 : Shape := ⟨2, ![8, 128]⟩
abbrev S16x128 : Shape := ⟨2, ![16, 128]⟩
abbrev S1024x256 : Shape := ⟨2, ![1024, 256]⟩
abbrev S8x256 : Shape := ⟨2, ![8, 256]⟩

abbrev nBuf : Space → Nat
  | .hbm => 7
  | .vmem => 9
  | .smem => 1
  | _ => 0

abbrev bufTy : (tb : Table) → Fin (tcTables nBuf tb) → BufTy
  | .hbm, ⟨0, _⟩ => ⟨S8x1x16384, .bf16⟩
  | .hbm, ⟨1, _⟩ => ⟨S8192x13312, .i8⟩
  | .hbm, ⟨2, _⟩ => ⟨S1024x13312, .fp8e4m3⟩
  | .hbm, ⟨3, _⟩ => ⟨S_, .f32⟩
  | .hbm, ⟨4, _⟩ => ⟨S8x16384, .bf16⟩
  | .hbm, ⟨5, _⟩ => ⟨S1, .f32⟩
  | .hbm, ⟨6, _⟩ => ⟨S8x13312, .bf16⟩
  | .local _ .vmem, ⟨0, _⟩ => ⟨S8x1024, .bf16⟩
  | .local _ .vmem, ⟨1, _⟩ => ⟨S8x1024, .bf16⟩
  | .local _ .vmem, ⟨2, _⟩ => ⟨S512x13312, .i8⟩
  | .local _ .vmem, ⟨3, _⟩ => ⟨S512x13312, .i8⟩
  | .local _ .vmem, ⟨4, _⟩ => ⟨S64x13312, .fp8e4m3⟩
  | .local _ .vmem, ⟨5, _⟩ => ⟨S64x13312, .fp8e4m3⟩
  | .local _ .vmem, ⟨6, _⟩ => ⟨S8x13312, .bf16⟩
  | .local _ .vmem, ⟨7, _⟩ => ⟨S8x13312, .f32⟩
  | .local _ .vmem, ⟨8, _⟩ => ⟨S104x64x128, .i32⟩
  | .local _ .smem, ⟨0, _⟩ => ⟨S1, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_316 : BitVec 32 := 0#32
  let c52_i32 : BitVec 32 := 52#32
  let v629 : BitVec 32 := Scalar.addi c0_i32_316 c52_i32
  let c1_i32 : BitVec 32 := 1#32
  ⟨c0_i32_316, v629, c1_i32⟩
def k0_mult1 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let c0_i32_319 : BitVec 32 := 0#32
  let v634 : BitVec 32 := Scalar.addi v633 c0_i32_319
  let c128_i32 : BitVec 32 := 128#32
  let v635 : BitVec 32 := Scalar.muli v634 c128_i32
  v635
def k0_off1 (k0_t1 : Fin k0_t1_loop.trips) (c0_i32_319 : BitVec 32) : Fin 2 → Nat :=
  let c0_320 : Index := 0#32
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let c128_i32 : BitVec 32 := 128#32
  let v635 : BitVec 32 := Scalar.muli v634 c128_i32
  let v636 : BitVec 32 := v635
  let v637 : Index := Scalar.indexCast v636
  ![0, v637.toNat]
def k0_off2 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v692 : Index := Scalar.indexCast v634
  let c0_337 : Index := 0#32
  let c0_338 : Index := 0#32
  ![v692.toNat, 0, 0]
def k0_off3 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v699 : Index := Scalar.indexCast v634
  let c1_339 : Index := 1#32
  let c0_340 : Index := 0#32
  ![v699.toNat, 1, 0]
def k0_off4 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v706 : Index := Scalar.indexCast v634
  let c2_341 : Index := 2#32
  let c0_342 : Index := 0#32
  ![v706.toNat, 2, 0]
def k0_off5 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v713 : Index := Scalar.indexCast v634
  let c3_343 : Index := 3#32
  let c0_344 : Index := 0#32
  ![v713.toNat, 3, 0]
def k0_off6 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v720 : Index := Scalar.indexCast v634
  let c4_345 : Index := 4#32
  let c0_346 : Index := 0#32
  ![v720.toNat, 4, 0]
def k0_off7 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v727 : Index := Scalar.indexCast v634
  let c5_347 : Index := 5#32
  let c0_348 : Index := 0#32
  ![v727.toNat, 5, 0]
def k0_off8 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v734 : Index := Scalar.indexCast v634
  let c6_349 : Index := 6#32
  let c0_350 : Index := 0#32
  ![v734.toNat, 6, 0]
def k0_off9 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v741 : Index := Scalar.indexCast v634
  let c7_351 : Index := 7#32
  let c0_352 : Index := 0#32
  ![v741.toNat, 7, 0]
def k0_off10 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v748 : Index := Scalar.indexCast v634
  let c8_353 : Index := 8#32
  let c0_354 : Index := 0#32
  ![v748.toNat, 8, 0]
def k0_off11 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v755 : Index := Scalar.indexCast v634
  let c9_355 : Index := 9#32
  let c0_356 : Index := 0#32
  ![v755.toNat, 9, 0]
def k0_off12 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v762 : Index := Scalar.indexCast v634
  let c10_357 : Index := 10#32
  let c0_358 : Index := 0#32
  ![v762.toNat, 10, 0]
def k0_off13 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v769 : Index := Scalar.indexCast v634
  let c11_359 : Index := 11#32
  let c0_360 : Index := 0#32
  ![v769.toNat, 11, 0]
def k0_off14 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v776 : Index := Scalar.indexCast v634
  let c12_361 : Index := 12#32
  let c0_362 : Index := 0#32
  ![v776.toNat, 12, 0]
def k0_off15 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v783 : Index := Scalar.indexCast v634
  let c13_363 : Index := 13#32
  let c0_364 : Index := 0#32
  ![v783.toNat, 13, 0]
def k0_off16 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v790 : Index := Scalar.indexCast v634
  let c14_365 : Index := 14#32
  let c0_366 : Index := 0#32
  ![v790.toNat, 14, 0]
def k0_off17 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v797 : Index := Scalar.indexCast v634
  let c15_367 : Index := 15#32
  let c0_368 : Index := 0#32
  ![v797.toNat, 15, 0]
def k0_off18 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v804 : Index := Scalar.indexCast v634
  let c16_369 : Index := 16#32
  let c0_370 : Index := 0#32
  ![v804.toNat, 16, 0]
def k0_off19 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v811 : Index := Scalar.indexCast v634
  let c17_371 : Index := 17#32
  let c0_372 : Index := 0#32
  ![v811.toNat, 17, 0]
def k0_off20 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v818 : Index := Scalar.indexCast v634
  let c18_373 : Index := 18#32
  let c0_374 : Index := 0#32
  ![v818.toNat, 18, 0]
def k0_off21 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v825 : Index := Scalar.indexCast v634
  let c19_375 : Index := 19#32
  let c0_376 : Index := 0#32
  ![v825.toNat, 19, 0]
def k0_off22 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v832 : Index := Scalar.indexCast v634
  let c20_377 : Index := 20#32
  let c0_378 : Index := 0#32
  ![v832.toNat, 20, 0]
def k0_off23 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v839 : Index := Scalar.indexCast v634
  let c21_379 : Index := 21#32
  let c0_380 : Index := 0#32
  ![v839.toNat, 21, 0]
def k0_off24 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v846 : Index := Scalar.indexCast v634
  let c22_381 : Index := 22#32
  let c0_382 : Index := 0#32
  ![v846.toNat, 22, 0]
def k0_off25 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v853 : Index := Scalar.indexCast v634
  let c23_383 : Index := 23#32
  let c0_384 : Index := 0#32
  ![v853.toNat, 23, 0]
def k0_off26 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v860 : Index := Scalar.indexCast v634
  let c24_385 : Index := 24#32
  let c0_386 : Index := 0#32
  ![v860.toNat, 24, 0]
def k0_off27 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v867 : Index := Scalar.indexCast v634
  let c25_387 : Index := 25#32
  let c0_388 : Index := 0#32
  ![v867.toNat, 25, 0]
def k0_off28 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v874 : Index := Scalar.indexCast v634
  let c26_389 : Index := 26#32
  let c0_390 : Index := 0#32
  ![v874.toNat, 26, 0]
def k0_off29 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v881 : Index := Scalar.indexCast v634
  let c27_391 : Index := 27#32
  let c0_392 : Index := 0#32
  ![v881.toNat, 27, 0]
def k0_off30 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v888 : Index := Scalar.indexCast v634
  let c28_393 : Index := 28#32
  let c0_394 : Index := 0#32
  ![v888.toNat, 28, 0]
def k0_off31 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v895 : Index := Scalar.indexCast v634
  let c29_395 : Index := 29#32
  let c0_396 : Index := 0#32
  ![v895.toNat, 29, 0]
def k0_off32 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v902 : Index := Scalar.indexCast v634
  let c30_397 : Index := 30#32
  let c0_398 : Index := 0#32
  ![v902.toNat, 30, 0]
def k0_off33 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v909 : Index := Scalar.indexCast v634
  let c31_399 : Index := 31#32
  let c0_400 : Index := 0#32
  ![v909.toNat, 31, 0]
def k0_off34 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v916 : Index := Scalar.indexCast v634
  let c32_401 : Index := 32#32
  let c0_402 : Index := 0#32
  ![v916.toNat, 32, 0]
def k0_off35 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v923 : Index := Scalar.indexCast v634
  let c33_403 : Index := 33#32
  let c0_404 : Index := 0#32
  ![v923.toNat, 33, 0]
def k0_off36 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v930 : Index := Scalar.indexCast v634
  let c34_405 : Index := 34#32
  let c0_406 : Index := 0#32
  ![v930.toNat, 34, 0]
def k0_off37 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v937 : Index := Scalar.indexCast v634
  let c35_407 : Index := 35#32
  let c0_408 : Index := 0#32
  ![v937.toNat, 35, 0]
def k0_off38 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v944 : Index := Scalar.indexCast v634
  let c36_409 : Index := 36#32
  let c0_410 : Index := 0#32
  ![v944.toNat, 36, 0]
def k0_off39 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v951 : Index := Scalar.indexCast v634
  let c37_411 : Index := 37#32
  let c0_412 : Index := 0#32
  ![v951.toNat, 37, 0]
def k0_off40 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v958 : Index := Scalar.indexCast v634
  let c38_413 : Index := 38#32
  let c0_414 : Index := 0#32
  ![v958.toNat, 38, 0]
def k0_off41 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v965 : Index := Scalar.indexCast v634
  let c39_415 : Index := 39#32
  let c0_416 : Index := 0#32
  ![v965.toNat, 39, 0]
def k0_off42 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v972 : Index := Scalar.indexCast v634
  let c40_417 : Index := 40#32
  let c0_418 : Index := 0#32
  ![v972.toNat, 40, 0]
def k0_off43 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v979 : Index := Scalar.indexCast v634
  let c41_419 : Index := 41#32
  let c0_420 : Index := 0#32
  ![v979.toNat, 41, 0]
def k0_off44 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v986 : Index := Scalar.indexCast v634
  let c42_421 : Index := 42#32
  let c0_422 : Index := 0#32
  ![v986.toNat, 42, 0]
def k0_off45 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v993 : Index := Scalar.indexCast v634
  let c43_423 : Index := 43#32
  let c0_424 : Index := 0#32
  ![v993.toNat, 43, 0]
def k0_off46 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1000 : Index := Scalar.indexCast v634
  let c44_425 : Index := 44#32
  let c0_426 : Index := 0#32
  ![v1000.toNat, 44, 0]
def k0_off47 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1007 : Index := Scalar.indexCast v634
  let c45_427 : Index := 45#32
  let c0_428 : Index := 0#32
  ![v1007.toNat, 45, 0]
def k0_off48 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1014 : Index := Scalar.indexCast v634
  let c46_429 : Index := 46#32
  let c0_430 : Index := 0#32
  ![v1014.toNat, 46, 0]
def k0_off49 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1021 : Index := Scalar.indexCast v634
  let c47_431 : Index := 47#32
  let c0_432 : Index := 0#32
  ![v1021.toNat, 47, 0]
def k0_off50 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1028 : Index := Scalar.indexCast v634
  let c48_433 : Index := 48#32
  let c0_434 : Index := 0#32
  ![v1028.toNat, 48, 0]
def k0_off51 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1035 : Index := Scalar.indexCast v634
  let c49_435 : Index := 49#32
  let c0_436 : Index := 0#32
  ![v1035.toNat, 49, 0]
def k0_off52 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1042 : Index := Scalar.indexCast v634
  let c50_437 : Index := 50#32
  let c0_438 : Index := 0#32
  ![v1042.toNat, 50, 0]
def k0_off53 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1049 : Index := Scalar.indexCast v634
  let c51_439 : Index := 51#32
  let c0_440 : Index := 0#32
  ![v1049.toNat, 51, 0]
def k0_off54 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1056 : Index := Scalar.indexCast v634
  let c52_441 : Index := 52#32
  let c0_442 : Index := 0#32
  ![v1056.toNat, 52, 0]
def k0_off55 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1063 : Index := Scalar.indexCast v634
  let c53_443 : Index := 53#32
  let c0_444 : Index := 0#32
  ![v1063.toNat, 53, 0]
def k0_off56 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1070 : Index := Scalar.indexCast v634
  let c54_445 : Index := 54#32
  let c0_446 : Index := 0#32
  ![v1070.toNat, 54, 0]
def k0_off57 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1077 : Index := Scalar.indexCast v634
  let c55_447 : Index := 55#32
  let c0_448 : Index := 0#32
  ![v1077.toNat, 55, 0]
def k0_off58 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1084 : Index := Scalar.indexCast v634
  let c56_449 : Index := 56#32
  let c0_450 : Index := 0#32
  ![v1084.toNat, 56, 0]
def k0_off59 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1091 : Index := Scalar.indexCast v634
  let c57_451 : Index := 57#32
  let c0_452 : Index := 0#32
  ![v1091.toNat, 57, 0]
def k0_off60 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1098 : Index := Scalar.indexCast v634
  let c58_453 : Index := 58#32
  let c0_454 : Index := 0#32
  ![v1098.toNat, 58, 0]
def k0_off61 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1105 : Index := Scalar.indexCast v634
  let c59_455 : Index := 59#32
  let c0_456 : Index := 0#32
  ![v1105.toNat, 59, 0]
def k0_off62 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1112 : Index := Scalar.indexCast v634
  let c60_457 : Index := 60#32
  let c0_458 : Index := 0#32
  ![v1112.toNat, 60, 0]
def k0_off63 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1119 : Index := Scalar.indexCast v634
  let c61_459 : Index := 61#32
  let c0_460 : Index := 0#32
  ![v1119.toNat, 61, 0]
def k0_off64 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1126 : Index := Scalar.indexCast v634
  let c62_461 : Index := 62#32
  let c0_462 : Index := 0#32
  ![v1126.toNat, 62, 0]
def k0_off65 (k0_t1 : Fin k0_t1_loop.trips) (c0_i32_319 : BitVec 32) : Fin 3 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1133 : Index := Scalar.indexCast v634
  let c63_463 : Index := 63#32
  let c0_464 : Index := 0#32
  ![v1133.toNat, 63, 0]
def k0_mult2 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c2_i32_465 : BitVec 32 := 2#32
  let v1141 : BitVec 32 := Scalar.muli arg8 c2_i32_465
  let c1_i32_466 : BitVec 32 := 1#32
  let v1142 : BitVec 32 := Scalar.addi v1141 c1_i32_466
  let c128_i32_467 : BitVec 32 := 128#32
  let v1143 : BitVec 32 := Scalar.muli v1142 c128_i32_467
  v1143
def k0_mult3 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c256_i32 : BitVec 32 := 256#32
  let v1650 : BitVec 32 := Scalar.muli arg8 c256_i32
  v1650
def k0_off66 (k0_t1 : Fin k0_t1_loop.trips) : Fin 2 → Nat :=
  let c0_619 : Index := 0#32
  let c0_i32_316 : BitVec 32 := 0#32
  let c1_i32 : BitVec 32 := 1#32
  let arg8 : BitVec 32 := Scf.iv c0_i32_316 c1_i32 k0_t1
  let c256_i32 : BitVec 32 := 256#32
  let v1650 : BitVec 32 := Scalar.muli arg8 c256_i32
  let v1651 : BitVec 32 := v1650
  let v1652 : Index := Scalar.indexCast v1651
  ![0, v1652.toNat]
def k0_cond2 (i : grid0.Coords) : BitVec 1 :=
  let arg0 : BitVec 32 := BitVec.ofNat 32 (i 0).val
  let c15_i32 : BitVec 32 := 15#32
  let v630 : BitVec 1 := Scalar.cmpi .eq arg0 c15_i32
  let v631 : BitVec 32 := Scalar.extui v630
  let c0_i32_318 : BitVec 32 := 0#32
  let v632 : BitVec 1 := Scalar.cmpi .ne v631 c0_i32_318
  v632

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x13312 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x13312 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x13312 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S8x1x16384 : Shape := ⟨3, ![8, 1, 16384]⟩
abbrev S8192x13312 : Shape := ⟨2, ![8192, 13312]⟩
abbrev S1024x13312 : Shape := ⟨2, ![1024, 13312]⟩
abbrev S_ : Shape := ⟨0, ![]⟩
abbrev S8x16384 : Shape := ⟨2, ![8, 16384]⟩
abbrev S1 : Shape := ⟨1, ![1]⟩
abbrev S8x13312 : Shape := ⟨2, ![8, 13312]⟩
abbrev S8x1024 : Shape := ⟨2, ![8, 1024]⟩
abbrev S512x13312 : Shape := ⟨2, ![512, 13312]⟩
abbrev S64x13312 : Shape := ⟨2, ![64, 13312]⟩
abbrev S104x64x128 : Shape := ⟨3, ![104, 64, 128]⟩
abbrev S104x64x2x128 : Shape := ⟨4, ![104, 64, 2, 128]⟩
abbrev S104x64x1x128 : Shape := ⟨4, ![104, 64, 1, 128]⟩
abbrev S64x128 : Shape := ⟨2, ![64, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S512x128 : Shape := ⟨2, ![512, 128]⟩
abbrev S1024x128 : Shape := ⟨2, ![1024, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S8x128 : Shape := ⟨2, ![8, 128]⟩
abbrev S16x128 : Shape := ⟨2, ![16, 128]⟩
abbrev S1024x256 : Shape := ⟨2, ![1024, 256]⟩
abbrev S8x256 : Shape := ⟨2, ![8, 256]⟩

abbrev nBuf : Space → Nat
  | .hbm => 7
  | .vmem => 9
  | .smem => 1
  | _ => 0

abbrev bufTy : (tb : Table) → Fin (tcTables nBuf tb) → BufTy
  | .hbm, ⟨0, _⟩ => ⟨S8x1x16384, .bf16⟩
  | .hbm, ⟨1, _⟩ => ⟨S8192x13312, .i8⟩
  | .hbm, ⟨2, _⟩ => ⟨S1024x13312, .fp8e4m3⟩
  | .hbm, ⟨3, _⟩ => ⟨S_, .f32⟩
  | .hbm, ⟨4, _⟩ => ⟨S8x16384, .bf16⟩
  | .hbm, ⟨5, _⟩ => ⟨S1, .f32⟩
  | .hbm, ⟨6, _⟩ => ⟨S8x13312, .bf16⟩
  | .local _ .vmem, ⟨0, _⟩ => ⟨S8x1024, .bf16⟩
  | .local _ .vmem, ⟨1, _⟩ => ⟨S8x1024, .bf16⟩
  | .local _ .vmem, ⟨2, _⟩ => ⟨S512x13312, .i8⟩
  | .local _ .vmem, ⟨3, _⟩ => ⟨S512x13312, .i8⟩
  | .local _ .vmem, ⟨4, _⟩ => ⟨S64x13312, .fp8e4m3⟩
  | .local _ .vmem, ⟨5, _⟩ => ⟨S64x13312, .fp8e4m3⟩
  | .local _ .vmem, ⟨6, _⟩ => ⟨S8x13312, .bf16⟩
  | .local _ .vmem, ⟨7, _⟩ => ⟨S8x13312, .f32⟩
  | .local _ .vmem, ⟨8, _⟩ => ⟨S104x64x2x128, .bf16⟩
  | .local _ .smem, ⟨0, _⟩ => ⟨S1, .f32⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_316 : BitVec 32 := 0#32
  let c52_i32 : BitVec 32 := 52#32
  let v629 : BitVec 32 := Scalar.addi c0_i32_316 c52_i32
  let c1_i32 : BitVec 32 := 1#32
  ⟨c0_i32_316, v629, c1_i32⟩
def k0_mult1 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let c0_i32_319 : BitVec 32 := 0#32
  let v634 : BitVec 32 := Scalar.addi v633 c0_i32_319
  let c128_i32 : BitVec 32 := 128#32
  let v635 : BitVec 32 := Scalar.muli v634 c128_i32
  v635
def k0_off1 (k0_t1 : Fin k0_t1_loop.trips) (c0_i32_319 : BitVec 32) : Fin 2 → Nat :=
  let c0_320 : Index := 0#32
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let c128_i32 : BitVec 32 := 128#32
  let v635 : BitVec 32 := Scalar.muli v634 c128_i32
  let v636 : BitVec 32 := v635
  let v637 : Index := Scalar.indexCast v636
  ![0, v637.toNat]
def k0_off2 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v692 : Index := Scalar.indexCast v634
  let c0_337 : Index := 0#32
  let c0_338 : Index := 0#32
  ![v692.toNat, 0, 0, 0]
def k0_off3 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v699 : Index := Scalar.indexCast v634
  let c1_339 : Index := 1#32
  let c0_340 : Index := 0#32
  ![v699.toNat, 1, 0, 0]
def k0_off4 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v706 : Index := Scalar.indexCast v634
  let c2_341 : Index := 2#32
  let c0_342 : Index := 0#32
  ![v706.toNat, 2, 0, 0]
def k0_off5 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v713 : Index := Scalar.indexCast v634
  let c3_343 : Index := 3#32
  let c0_344 : Index := 0#32
  ![v713.toNat, 3, 0, 0]
def k0_off6 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v720 : Index := Scalar.indexCast v634
  let c4_345 : Index := 4#32
  let c0_346 : Index := 0#32
  ![v720.toNat, 4, 0, 0]
def k0_off7 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v727 : Index := Scalar.indexCast v634
  let c5_347 : Index := 5#32
  let c0_348 : Index := 0#32
  ![v727.toNat, 5, 0, 0]
def k0_off8 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v734 : Index := Scalar.indexCast v634
  let c6_349 : Index := 6#32
  let c0_350 : Index := 0#32
  ![v734.toNat, 6, 0, 0]
def k0_off9 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v741 : Index := Scalar.indexCast v634
  let c7_351 : Index := 7#32
  let c0_352 : Index := 0#32
  ![v741.toNat, 7, 0, 0]
def k0_off10 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v748 : Index := Scalar.indexCast v634
  let c8_353 : Index := 8#32
  let c0_354 : Index := 0#32
  ![v748.toNat, 8, 0, 0]
def k0_off11 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v755 : Index := Scalar.indexCast v634
  let c9_355 : Index := 9#32
  let c0_356 : Index := 0#32
  ![v755.toNat, 9, 0, 0]
def k0_off12 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v762 : Index := Scalar.indexCast v634
  let c10_357 : Index := 10#32
  let c0_358 : Index := 0#32
  ![v762.toNat, 10, 0, 0]
def k0_off13 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v769 : Index := Scalar.indexCast v634
  let c11_359 : Index := 11#32
  let c0_360 : Index := 0#32
  ![v769.toNat, 11, 0, 0]
def k0_off14 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v776 : Index := Scalar.indexCast v634
  let c12_361 : Index := 12#32
  let c0_362 : Index := 0#32
  ![v776.toNat, 12, 0, 0]
def k0_off15 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v783 : Index := Scalar.indexCast v634
  let c13_363 : Index := 13#32
  let c0_364 : Index := 0#32
  ![v783.toNat, 13, 0, 0]
def k0_off16 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v790 : Index := Scalar.indexCast v634
  let c14_365 : Index := 14#32
  let c0_366 : Index := 0#32
  ![v790.toNat, 14, 0, 0]
def k0_off17 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v797 : Index := Scalar.indexCast v634
  let c15_367 : Index := 15#32
  let c0_368 : Index := 0#32
  ![v797.toNat, 15, 0, 0]
def k0_off18 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v804 : Index := Scalar.indexCast v634
  let c16_369 : Index := 16#32
  let c0_370 : Index := 0#32
  ![v804.toNat, 16, 0, 0]
def k0_off19 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v811 : Index := Scalar.indexCast v634
  let c17_371 : Index := 17#32
  let c0_372 : Index := 0#32
  ![v811.toNat, 17, 0, 0]
def k0_off20 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v818 : Index := Scalar.indexCast v634
  let c18_373 : Index := 18#32
  let c0_374 : Index := 0#32
  ![v818.toNat, 18, 0, 0]
def k0_off21 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v825 : Index := Scalar.indexCast v634
  let c19_375 : Index := 19#32
  let c0_376 : Index := 0#32
  ![v825.toNat, 19, 0, 0]
def k0_off22 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v832 : Index := Scalar.indexCast v634
  let c20_377 : Index := 20#32
  let c0_378 : Index := 0#32
  ![v832.toNat, 20, 0, 0]
def k0_off23 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v839 : Index := Scalar.indexCast v634
  let c21_379 : Index := 21#32
  let c0_380 : Index := 0#32
  ![v839.toNat, 21, 0, 0]
def k0_off24 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v846 : Index := Scalar.indexCast v634
  let c22_381 : Index := 22#32
  let c0_382 : Index := 0#32
  ![v846.toNat, 22, 0, 0]
def k0_off25 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v853 : Index := Scalar.indexCast v634
  let c23_383 : Index := 23#32
  let c0_384 : Index := 0#32
  ![v853.toNat, 23, 0, 0]
def k0_off26 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v860 : Index := Scalar.indexCast v634
  let c24_385 : Index := 24#32
  let c0_386 : Index := 0#32
  ![v860.toNat, 24, 0, 0]
def k0_off27 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v867 : Index := Scalar.indexCast v634
  let c25_387 : Index := 25#32
  let c0_388 : Index := 0#32
  ![v867.toNat, 25, 0, 0]
def k0_off28 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v874 : Index := Scalar.indexCast v634
  let c26_389 : Index := 26#32
  let c0_390 : Index := 0#32
  ![v874.toNat, 26, 0, 0]
def k0_off29 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v881 : Index := Scalar.indexCast v634
  let c27_391 : Index := 27#32
  let c0_392 : Index := 0#32
  ![v881.toNat, 27, 0, 0]
def k0_off30 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v888 : Index := Scalar.indexCast v634
  let c28_393 : Index := 28#32
  let c0_394 : Index := 0#32
  ![v888.toNat, 28, 0, 0]
def k0_off31 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v895 : Index := Scalar.indexCast v634
  let c29_395 : Index := 29#32
  let c0_396 : Index := 0#32
  ![v895.toNat, 29, 0, 0]
def k0_off32 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v902 : Index := Scalar.indexCast v634
  let c30_397 : Index := 30#32
  let c0_398 : Index := 0#32
  ![v902.toNat, 30, 0, 0]
def k0_off33 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v909 : Index := Scalar.indexCast v634
  let c31_399 : Index := 31#32
  let c0_400 : Index := 0#32
  ![v909.toNat, 31, 0, 0]
def k0_off34 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v916 : Index := Scalar.indexCast v634
  let c32_401 : Index := 32#32
  let c0_402 : Index := 0#32
  ![v916.toNat, 32, 0, 0]
def k0_off35 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v923 : Index := Scalar.indexCast v634
  let c33_403 : Index := 33#32
  let c0_404 : Index := 0#32
  ![v923.toNat, 33, 0, 0]
def k0_off36 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v930 : Index := Scalar.indexCast v634
  let c34_405 : Index := 34#32
  let c0_406 : Index := 0#32
  ![v930.toNat, 34, 0, 0]
def k0_off37 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v937 : Index := Scalar.indexCast v634
  let c35_407 : Index := 35#32
  let c0_408 : Index := 0#32
  ![v937.toNat, 35, 0, 0]
def k0_off38 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v944 : Index := Scalar.indexCast v634
  let c36_409 : Index := 36#32
  let c0_410 : Index := 0#32
  ![v944.toNat, 36, 0, 0]
def k0_off39 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v951 : Index := Scalar.indexCast v634
  let c37_411 : Index := 37#32
  let c0_412 : Index := 0#32
  ![v951.toNat, 37, 0, 0]
def k0_off40 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v958 : Index := Scalar.indexCast v634
  let c38_413 : Index := 38#32
  let c0_414 : Index := 0#32
  ![v958.toNat, 38, 0, 0]
def k0_off41 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v965 : Index := Scalar.indexCast v634
  let c39_415 : Index := 39#32
  let c0_416 : Index := 0#32
  ![v965.toNat, 39, 0, 0]
def k0_off42 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v972 : Index := Scalar.indexCast v634
  let c40_417 : Index := 40#32
  let c0_418 : Index := 0#32
  ![v972.toNat, 40, 0, 0]
def k0_off43 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v979 : Index := Scalar.indexCast v634
  let c41_419 : Index := 41#32
  let c0_420 : Index := 0#32
  ![v979.toNat, 41, 0, 0]
def k0_off44 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v986 : Index := Scalar.indexCast v634
  let c42_421 : Index := 42#32
  let c0_422 : Index := 0#32
  ![v986.toNat, 42, 0, 0]
def k0_off45 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v993 : Index := Scalar.indexCast v634
  let c43_423 : Index := 43#32
  let c0_424 : Index := 0#32
  ![v993.toNat, 43, 0, 0]
def k0_off46 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1000 : Index := Scalar.indexCast v634
  let c44_425 : Index := 44#32
  let c0_426 : Index := 0#32
  ![v1000.toNat, 44, 0, 0]
def k0_off47 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1007 : Index := Scalar.indexCast v634
  let c45_427 : Index := 45#32
  let c0_428 : Index := 0#32
  ![v1007.toNat, 45, 0, 0]
def k0_off48 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1014 : Index := Scalar.indexCast v634
  let c46_429 : Index := 46#32
  let c0_430 : Index := 0#32
  ![v1014.toNat, 46, 0, 0]
def k0_off49 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1021 : Index := Scalar.indexCast v634
  let c47_431 : Index := 47#32
  let c0_432 : Index := 0#32
  ![v1021.toNat, 47, 0, 0]
def k0_off50 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1028 : Index := Scalar.indexCast v634
  let c48_433 : Index := 48#32
  let c0_434 : Index := 0#32
  ![v1028.toNat, 48, 0, 0]
def k0_off51 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1035 : Index := Scalar.indexCast v634
  let c49_435 : Index := 49#32
  let c0_436 : Index := 0#32
  ![v1035.toNat, 49, 0, 0]
def k0_off52 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1042 : Index := Scalar.indexCast v634
  let c50_437 : Index := 50#32
  let c0_438 : Index := 0#32
  ![v1042.toNat, 50, 0, 0]
def k0_off53 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1049 : Index := Scalar.indexCast v634
  let c51_439 : Index := 51#32
  let c0_440 : Index := 0#32
  ![v1049.toNat, 51, 0, 0]
def k0_off54 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1056 : Index := Scalar.indexCast v634
  let c52_441 : Index := 52#32
  let c0_442 : Index := 0#32
  ![v1056.toNat, 52, 0, 0]
def k0_off55 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1063 : Index := Scalar.indexCast v634
  let c53_443 : Index := 53#32
  let c0_444 : Index := 0#32
  ![v1063.toNat, 53, 0, 0]
def k0_off56 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1070 : Index := Scalar.indexCast v634
  let c54_445 : Index := 54#32
  let c0_446 : Index := 0#32
  ![v1070.toNat, 54, 0, 0]
def k0_off57 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1077 : Index := Scalar.indexCast v634
  let c55_447 : Index := 55#32
  let c0_448 : Index := 0#32
  ![v1077.toNat, 55, 0, 0]
def k0_off58 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1084 : Index := Scalar.indexCast v634
  let c56_449 : Index := 56#32
  let c0_450 : Index := 0#32
  ![v1084.toNat, 56, 0, 0]
def k0_off59 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1091 : Index := Scalar.indexCast v634
  let c57_451 : Index := 57#32
  let c0_452 : Index := 0#32
  ![v1091.toNat, 57, 0, 0]
def k0_off60 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1098 : Index := Scalar.indexCast v634
  let c58_453 : Index := 58#32
  let c0_454 : Index := 0#32
  ![v1098.toNat, 58, 0, 0]
def k0_off61 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1105 : Index := Scalar.indexCast v634
  let c59_455 : Index := 59#32
  let c0_456 : Index := 0#32
  ![v1105.toNat, 59, 0, 0]
def k0_off62 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1112 : Index := Scalar.indexCast v634
  let c60_457 : Index := 60#32
  let c0_458 : Index := 0#32
  ![v1112.toNat, 60, 0, 0]
def k0_off63 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1119 : Index := Scalar.indexCast v634
  let c61_459 : Index := 61#32
  let c0_460 : Index := 0#32
  ![v1119.toNat, 61, 0, 0]
def k0_off64 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1126 : Index := Scalar.indexCast v634
  let c62_461 : Index := 62#32
  let c0_462 : Index := 0#32
  ![v1126.toNat, 62, 0, 0]
def k0_off65 (k0_t1 : Fin k0_t1_loop.trips) (c0_i32_319 : BitVec 32) : Fin 4 → Nat :=
  let c0_i32_316 : BitVec 32 := 0#32
  let c1_i32 : BitVec 32 := 1#32
  let arg8 : BitVec 32 := Scf.iv c0_i32_316 c1_i32 k0_t1
  let c2_i32 : BitVec 32 := 2#32
  let v633 : BitVec 32 := Scalar.muli arg8 c2_i32
  let v634 : BitVec 32 := Scalar.addi v633 c0_i32_319
  let v1133 : Index := Scalar.indexCast v634
  let c63_463 : Index := 63#32
  let c0_464 : Index := 0#32
  ![v1133.toNat, 63, 0, 0]
def k0_mult2 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c2_i32_465 : BitVec 32 := 2#32
  let v1141 : BitVec 32 := Scalar.muli arg8 c2_i32_465
  let c1_i32_466 : BitVec 32 := 1#32
  let v1142 : BitVec 32 := Scalar.addi v1141 c1_i32_466
  let c128_i32_467 : BitVec 32 := 128#32
  let v1143 : BitVec 32 := Scalar.muli v1142 c128_i32_467
  v1143
def k0_mult3 (k0_t1 : Fin k0_t1_loop.trips) : BitVec 32 :=
  let c0_i32_316 : BitVec 32 := 0#32
  let c1_i32 : BitVec 32 := 1#32
  let arg8 : BitVec 32 := Scf.iv c0_i32_316 c1_i32 k0_t1
  let c256_i32 : BitVec 32 := 256#32
  let v1650 : BitVec 32 := Scalar.muli arg8 c256_i32
  v1650
def k0_off66 (k0_t1 : Fin k0_t1_loop.trips) : Fin 2 → Nat :=
  let c0_619 : Index := 0#32
  let c0_i32_316 : BitVec 32 := 0#32
  let c1_i32 : BitVec 32 := 1#32
  let arg8 : BitVec 32 := Scf.iv c0_i32_316 c1_i32 k0_t1
  let c256_i32 : BitVec 32 := 256#32
  let v1650 : BitVec 32 := Scalar.muli arg8 c256_i32
  let v1651 : BitVec 32 := v1650
  let v1652 : Index := Scalar.indexCast v1651
  ![0, v1652.toNat]
def k0_cond2 (i : grid0.Coords) : BitVec 1 :=
  let arg0 : BitVec 32 := BitVec.ofNat 32 (i 0).val
  let c15_i32 : BitVec 32 := 15#32
  let v630 : BitVec 1 := Scalar.cmpi .eq arg0 c15_i32
  let v631 : BitVec 32 := Scalar.extui v630
  let c0_i32_318 : BitVec 32 := 0#32
  let v632 : BitVec 1 := Scalar.cmpi .ne v631 c0_i32_318
  v632

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x13312 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x13312 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x13312 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x1x16384 : Shape := ⟨3, ![8, 1, 16384]⟩
abbrev S8192x13312 : Shape := ⟨2, ![8192, 13312]⟩
abbrev S1024x13312 : Shape := ⟨2, ![1024, 13312]⟩
abbrev S_ : Shape := ⟨0, ![]⟩
abbrev S1024x8x13312 : Shape := ⟨3, ![1024, 8, 13312]⟩
abbrev S1024x1x13312 : Shape := ⟨3, ![1024, 1, 13312]⟩
abbrev S8x1x8192 : Shape := ⟨3, ![8, 1, 8192]⟩
abbrev S8x1x13312 : Shape := ⟨3, ![8, 1, 13312]⟩
abbrev S8x13312 : Shape := ⟨2, ![8, 13312]⟩

abbrev nBuf : Space → Nat
  | .hbm => 18
  | .vmem => 4
  | .smem => 0
  | _ => 0

abbrev bufTy : (tb : Table) → Fin (tcTables nBuf tb) → BufTy
  | .hbm, ⟨0, _⟩ => ⟨S8x1x16384, .bf16⟩
  | .hbm, ⟨1, _⟩ => ⟨S8192x13312, .i8⟩
  | .hbm, ⟨2, _⟩ => ⟨S1024x13312, .fp8e4m3⟩
  | .hbm, ⟨3, _⟩ => ⟨S_, .f32⟩
  | .hbm, ⟨4, _⟩ => ⟨S8192x13312, .bf16⟩
  | .hbm, ⟨5, _⟩ => ⟨S8192x13312, .bf16⟩
  | .hbm, ⟨6, _⟩ => ⟨S8x1x8192, .bf16⟩
  | .hbm, ⟨7, _⟩ => ⟨S8x1x13312, .f32⟩
  | .hbm, ⟨8, _⟩ => ⟨S8x1x8192, .bf16⟩
  | .hbm, ⟨9, _⟩ => ⟨S8x1x13312, .f32⟩
  | .hbm, ⟨10, _⟩ => ⟨S8x1x13312, .f32⟩
  | .hbm, ⟨11, _⟩ => ⟨S_, .f32⟩
  | .hbm, ⟨12, _⟩ => ⟨S8x1x13312, .f32⟩
  | .hbm, ⟨13, _⟩ => ⟨S8x1x13312, .f32⟩
  | .hbm, ⟨14, _⟩ => ⟨S8x1x13312, .f32⟩
  | .hbm, ⟨15, _⟩ => ⟨S8x1x13312, .f32⟩
  | .hbm, ⟨16, _⟩ => ⟨S8x1x13312, .bf16⟩
  | .hbm, ⟨17, _⟩ => ⟨S8x13312, .bf16⟩
  | .local _ .vmem, ⟨0, _⟩ => ⟨S8192x13312, .i8⟩
  | .local _ .vmem, ⟨1, _⟩ => ⟨S1024x13312, .fp8e4m3⟩
  | .local _ .vmem, ⟨2, _⟩ => ⟨S8192x13312, .bf16⟩
  | .local _ .vmem, ⟨3, _⟩ => ⟨S8192x13312, .bf16⟩
  | _, _ => ⟨S8x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x13312 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x13312 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x13312 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x13312 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Block.lean ====
module

public import proofs.«01_k».proof.Proof.Gen.KernelIdeal.Loops
public import Idealize.ShloMosaic.Lib.Pipeline.Value
public import Idealize.ShloMosaic.Lib.Pointwise

@[expose] public section

set_option maxRecDepth 16384

noncomputable section

namespace Cert.KernelIdeal.Tile

open Cert.KernelIdeal Cert.KernelIdeal.Gen Idealize.ShloMosaic.ValueIdx
open Idealize.ShloMosaic hiding ix0 ix1 ix2 ix3 ix4

variable {F : FTy → Type} [FloatOps F]

/-- One row of lanes, eight times. -/
def eightRows (x : FVec F S1x128 .bf16) : FVec F S8x128 .bf16 :=
  concatenate S8x128 0 [⟨S1x128, x⟩, ⟨S1x128, x⟩, ⟨S1x128, x⟩, ⟨S1x128, x⟩, ⟨S1x128, x⟩, ⟨S1x128, x⟩, ⟨S1x128, x⟩,
    ⟨S1x128, x⟩] concatenates_S1x128_S1x128_S1x128_S1x128_S1x128_S1x128_S1x128_S1x128_S8x128_d0

/-- The sixteen scale rows a block is multiplied by, from the pair of rows stored for it. -/
def scaleRows (raw : Vec F S1x1x2x128 .bf16) : FVec F S16x128 .bf16 :=
  interleaveRows S16x128
    (eightRows (shapeCast S1x128 (shapeCast S1x1x128
      (rowsOfParity 0 S1x1x1x128 raw bitcasts_S1x1x2x128_w16_S1x1x1x128_w32) shapeCasts_S1x1x1x128_S1x1x128)
      shapeCasts_S1x1x128_S1x128))
    (eightRows (shapeCast S1x128 (shapeCast S1x1x128
      (rowsOfParity 1 S1x1x1x128 raw bitcasts_S1x1x2x128_w16_S1x1x1x128_w32) shapeCasts_S1x1x1x128_S1x1x128)
      shapeCasts_S1x1x128_S1x128))
    bitcasts_S16x128_w16_S8x128_w32

/-- Sixteen decoded rows from row `o` on, times their scale rows. -/
def blk (o : ℕ) (h : S1024x128.Slices ![o, 0] S16x128) (v : FVec F S1024x128 .bf16) (raw : Vec F S1x1x2x128 .bf16) :
    FVec F S16x128 .bf16 :=
  mulf (extractStridedSlice S16x128 ![o, 0] v h) (scaleRows raw)

/-- The place of lane `l` of the stored row of parity `p`. -/
abbrev pairIdx (p : Fin 2) (l : Fin 128) : S1x1x2x128.Idx := ix4 (0 : Fin 1) (0 : Fin 1) p l

/-- The place of lane `l` of a single row, of the same row under one more axis, and under two. -/
abbrev rowIdx (l : Fin 128) : S1x128.Idx := ix2 (0 : Fin 1) l
@[inherit_doc rowIdx] abbrev slabIdx (l : Fin 128) : S1x1x128.Idx := ix3 (0 : Fin 1) (0 : Fin 1) l
@[inherit_doc rowIdx] abbrev wordIdx (l : Fin 128) : S1x1x1x128.Idx := ix4 (0 : Fin 1) (0 : Fin 1) (0 : Fin 1) l

/-- Each of the eight copies is the row. -/
theorem eightRows_apply (x : FVec F S1x128 .bf16) (i : S8x128.Idx) : eightRows x i = x (rowIdx ⟨(i 1).val, (i 1).isLt⟩) := by
  refine concatenate_replicate_apply (t := S8x128) (s₁ := S1x128) 0 8 x _ rfl i _ ?_ ?_
  · show 0 = (i 0).val % 1
    omega
  · intro b hb
    match b with
    | ⟨0, _⟩ => exact absurd rfl hb
    | ⟨1, _⟩ => rfl

/-- The row of parity `p`, brought to a single row, is the stored row of parity `p`. -/
theorem half_apply (p : Fin 2) (raw : Vec F S1x1x2x128 .bf16) (l : Fin 128) :
    shapeCast S1x128 (shapeCast S1x1x128
      (rowsOfParity p S1x1x1x128 raw bitcasts_S1x1x2x128_w16_S1x1x1x128_w32) shapeCasts_S1x1x1x128_S1x1x128)
      shapeCasts_S1x1x128_S1x128 (rowIdx l) = raw (pairIdx p l) := by
  rw [shapeCast_apply _ shapeCasts_S1x1x128_S1x128 (rowIdx l) (slabIdx l)
      (by rewrite [Shape.rowMajor_val_three, Shape.rowMajor_val_two]; rfl),
    shapeCast_apply _ shapeCasts_S1x1x1x128_S1x1x128 (slabIdx l) (wordIdx l)
      (by rewrite [Shape.rowMajor_val_three, Shape.rowMajor_val_four]; rfl)]
  unfold rowsOfParity
  refine congrArg raw (funext fun a => Fin.ext ?_)
  match a with
  | ⟨0, _⟩ => rfl
  | ⟨1, _⟩ => rfl
  | ⟨2, _⟩ => show 2 * 0 + p.val = p.val; omega
  | ⟨3, _⟩ => rfl

/-- Row `i` of the scale rows is the stored row of the parity of `i`. -/
theorem scaleRows_apply (raw : Vec F S1x1x2x128 .bf16) (i : S16x128.Idx) :
    scaleRows raw i = raw (pairIdx ⟨(i 0).val % 2, Nat.mod_lt _ (by decide)⟩ ⟨(i 1).val, (i 1).isLt⟩) := by
  have hrow : S16x128.row i = (i 0).val := rfl
  unfold scaleRows interleaveRows
  dsimp only
  rw [hrow]
  rcases Nat.mod_two_eq_zero_or_one (i 0).val with hp | hp
  · rw [if_pos hp, eightRows_apply, half_apply]
    exact congrArg raw (funext fun a => Fin.ext (match a with
      | ⟨0, _⟩ => rfl
      | ⟨1, _⟩ => rfl
      | ⟨2, _⟩ => hp.symm
      | ⟨3, _⟩ => rfl))
  · rw [if_neg (by omega), eightRows_apply, half_apply]
    exact congrArg raw (funext fun a => Fin.ext (match a with
      | ⟨0, _⟩ => rfl
      | ⟨1, _⟩ => rfl
      | ⟨2, _⟩ => hp.symm
      | ⟨3, _⟩ => rfl))

/-- Sixteen rows from a multiple of sixteen on lie within the decoded rows. -/
theorem slices_block (b : Fin 64) : S1024x128.Slices ![16 * b.val, 0] S16x128 := by
  revert b
  decide +kernel

/-- Sixty-four blocks make a column. -/
theorem concatenates_col (f : Fin 64 → (S16x128.Idx → F .bf16)) :
    Shape.Concatenates ((List.ofFn fun b : Fin 64 => (⟨S16x128, f b⟩ : (s : Shape) × (s.Idx → F .bf16))).map (·.1))
      S1024x128 0 := by
  rw [List.map_ofFn, show ((fun p : (s : Shape) × (s.Idx → F .bf16) => p.1) ∘ fun b : Fin 64 =>
    (⟨S16x128, f b⟩ : (s : Shape) × (s.Idx → F .bf16))) = fun _ => S16x128 from rfl]
  decide +kernel

/-- The sixty-four blocks of a column, one under the other. -/
def col (v : FVec F S1024x128 .bf16) (raw : Fin 64 → Vec F S1x1x2x128 .bf16) : FVec F S1024x128 .bf16 :=
  concatenate S1024x128 0 (List.ofFn fun b : Fin 64 =>
    (⟨S16x128, blk (16 * b.val) (slices_block b) v (raw b)⟩ : (s : Shape) × (s.Idx → F .bf16)))
    (concatenates_col fun b => blk (16 * b.val) (slices_block b) v (raw b))

/-- Row `r` of a column is the decoded row times the stored scale row of its block and its parity. -/
theorem col_apply (v : FVec F S1024x128 .bf16) (raw : Fin 64 → Vec F S1x1x2x128 .bf16) (r : Fin 1024) (l : Fin 128) :
    col v raw (ix2 r l) = FloatOps.mulf (v (ix2 r l))
      (raw ⟨r.val / 16, by have := r.isLt; omega⟩ (pairIdx ⟨r.val % 2, Nat.mod_lt _ (by decide)⟩ l)) := by
  unfold col
  rw [concatenate_ofFn_apply (t := S1024x128) (s₁ := S16x128) 0
    (fun b => blk (16 * b.val) (slices_block b) v (raw b)) _ rfl 16 rfl (ix2 r l)
    ⟨r.val / 16, by have := r.isLt; omega⟩ rfl (ix2 ⟨r.val % 16, Nat.mod_lt _ (by decide)⟩ l) rfl
    (by intro b hb; match b with
        | ⟨0, _⟩ => exact absurd rfl hb
        | ⟨1, _⟩ => rfl)]
  unfold blk
  show FloatOps.mulf (extractStridedSlice S16x128 _ v _ _) (scaleRows _ _) = _
  rw [scaleRows_apply, extractStridedSlice_apply _ v _ _ (ix2 r l) (by
    intro a
    match a with
    | ⟨0, _⟩ => show r.val = 16 * (r.val / 16) + r.val % 16; omega
    | ⟨1, _⟩ => show l.val = 0 + l.val; omega)]
  refine congrArg (FloatOps.mulf (v (ix2 r l))) (congrArg (raw _) (funext fun a => Fin.ext ?_))
  match a with
  | ⟨0, _⟩ => rfl
  | ⟨1, _⟩ => rfl
  | ⟨2, _⟩ => show r.val % 16 % 2 = r.val % 2; omega
  | ⟨3, _⟩ => rfl

end Cert.KernelIdeal.Tile

end
-- ==== Proof.Trip.lean ====
module

public import proofs.«01_k».proof.Proof.Block

@[expose] public section

set_option maxRecDepth 65536

noncomputable section

namespace Cert.KernelIdeal.Tile

open Cert.KernelIdeal Cert.KernelIdeal.Gen Idealize.ShloMosaic

variable {F : FTy → Type} [FloatOps F]

/-- The 1024 decoded rows of 512 rows of bytes: each byte's low and high four bits on consecutive rows. -/
def decode (w : Vec F S512x128 .i8) : FVec F S1024x128 .bf16 :=
  k0_pay8 (k0_pay3 w) (k0_pay4 (F := F) w) (k0_pay5 (F := F) w) (k0_pay6 (F := F) w) (k0_pay7 (F := F) w)

/-- The second of the two decodings of a trip is spelled over the same operations. -/
theorem decode_second (w : Vec F S512x128 .i8) :
    k0_pay92 (k0_pay88 (F := F) w) (k0_pay89 (F := F) w) (k0_pay90 w) k0_pay91 = decode w := rfl

/-- Where trip `k` finds the pair of scale rows of block `b` for its lane group `2k + r`. -/
def rowOff (k : Fin k0_t1_loop.trips) (r : Fin 2) (b : Fin 64) : Fin 4 → Nat :=
  ![(Scalar.indexCast (Scalar.addi (Scalar.muli (Scf.iv (0#32) (1#32) k) 2#32) (BitVec.ofNat 32 r.val))).toNat, b.val, 0, 0]

/-- That place in numbers. -/
theorem rowOff_eq (k : Fin k0_t1_loop.trips) (r : Fin 2) (b : Fin 64) :
    rowOff k r b = ![2 * k.val + r.val, b.val, 0, 0] := by
  have h : ∀ (k : Fin k0_t1_loop.trips) (r : Fin 2),
      (Scalar.indexCast (Scalar.addi (Scalar.muli (Scf.iv (0#32) (1#32) k) 2#32) (BitVec.ofNat 32 r.val))).toNat
        = 2 * k.val + r.val := by decide +kernel
  unfold rowOff
  rw [h k r]

/-- It lies within the scratch buffer. -/
theorem rowOff_inb (k : Fin k0_t1_loop.trips) (r : Fin 2) (b : Fin 64) :
    ∀ a, rowOff k r b a + S1x1x2x128.size a ≤ S104x64x2x128.size a := by
  have hk : k.val < 52 := Nat.lt_of_lt_of_le k.isLt k0_t1_abs.2.1
  have hr := r.isLt
  have hb := b.isLt
  rw [rowOff_eq]
  intro a
  match a with
  | ⟨0, _⟩ => show 2 * k.val + r.val + 1 ≤ 104; omega
  | ⟨1, _⟩ => show b.val + 1 ≤ 64; omega
  | ⟨2, _⟩ => show 0 + 2 ≤ 2; omega
  | ⟨3, _⟩ => show 0 + 128 ≤ 128; omega

/-- The pair of scale rows loaded for a block. -/
def pairAt (arg7 : Memref sig .tc .vmem S104x64x2x128 .bf16) (X : BufTy.Contents (Elt F) arg7.view.ty)
    (k : Fin k0_t1_loop.trips) (r : Fin 2) (b : Fin 64) : Vec F S1x1x2x128 .bf16 :=
  arg7.view.readAt (Elt F)
    (Rect.unit (s := S104x64x2x128) (rowOff k r b) S1x1x2x128.size (rowOff_inb k r b)).toLoadRect X

/-- The bytes loaded for one of the two lane groups of a trip. -/
def bytesAt (arg2 : Memref sig .tc .vmem S512x13312 .i8) (X : BufTy.Contents (Elt F) arg2.view.ty)
    (k : Fin k0_t1_loop.trips) (r : Fin 2) : Vec F S512x128 .i8 :=
  arg2.view.readAt (Elt F)
    (Rect.unit (s := S512x13312) (k0_off1 k (BitVec.ofNat 32 r.val)) S512x128.size (k0_off1_inb k r)).toLoadRect X

set_option maxHeartbeats 4000000 in
/-- One trip stores one piece: the tile as found plus the product of `x` with the two scaled columns. -/
theorem tripL_eq (𝒱 : Variants) (c : Dev nD) (bd : Option 𝒱.V) (i : grid0.Coords) (arg1 : Memref sig .tc .vmem S8x1024 .bf16) (harg1 : arg1.IsWhole)
    (arg2 : Memref sig .tc .vmem S512x13312 .i8) (harg2 : arg2.IsWhole) (arg3 : Memref sig .tc .vmem S64x13312 .fp8e4m3) (harg3 : arg3.IsWhole)
    (arg4 : Memref sig .tc .smem S1 .f32) (harg4 : arg4.IsWhole) (arg5 : Memref sig .tc .vmem S8x13312 .bf16) (harg5 : arg5.IsWhole)
    (arg6 : Memref sig .tc .vmem S8x13312 .f32) (harg6 : arg6.IsWhole) (arg7 : Memref sig .tc .vmem S104x64x2x128 .bf16) (harg7 : arg7.IsWhole)
    (v627 : Vec F S8x1024 .bf16) (X_arg2 : BufTy.Contents (Elt F) arg2.view.ty) (X_arg7 : BufTy.Contents (Elt F) arg7.view.ty)
    (k : Fin k0_t1_loop.trips) (f_arg6 : BufTy.Contents (Elt F) arg6.view.ty) :
    tripL_k0_t1 (F := F) 𝒱 c bd i arg1 harg1 arg2 harg2 arg3 harg3 arg4 harg4 arg5 harg5 arg6 harg6 arg7 harg7 v627 X_arg2 X_arg7 k f_arg6
      = [⟨Rect.unit (s := S8x13312) (k0_off66 k) S8x256.size (k0_off66_inb k),
          k0_pay337 v627 (col (decode (bytesAt arg2 X_arg2 k 0)) (pairAt arg7 X_arg7 k 0))
            (col (decode (bytesAt arg2 X_arg2 k 1)) (pairAt arg7 X_arg7 k 1))
            (arg6.view.readAt (Elt F) (Rect.unit (s := S8x13312) (k0_off66 k) S8x256.size (k0_off66_inb k)).toLoadRect f_arg6)⟩] := by
  unfold tripL_k0_t1 trip_k0_t1
  rfl

end Cert.KernelIdeal.Tile

end
-- ==== Proof.Scales.lean ====
module

public import proofs.«01_k».proof.Proof.Gen.KernelIdeal.Frame.RunC
public import Idealize.ShloMosaic.Lib.Pipeline.Value
public import Idealize.ShloMosaic.Lib.WritesUnit
public import proofs.«01_k».proof.Proof.Trip

@[expose] public section

set_option maxRecDepth 65536

noncomputable section

namespace Cert.KernelIdeal.Tile

open Cert.KernelIdeal Cert.KernelIdeal.Gen Idealize.ShloMosaic

variable {F : FTy → Type} [FloatOps F]

/-- Lane group `c` of the scales lies within the block of scales. -/
theorem scaleLoad_inb (c : Fin 104) : ∀ a, (![0, 128 * c.val] : Fin 2 → Nat) a + S64x128.size a ≤ S64x13312.size a := by
  have hc := c.isLt
  intro a
  match a with
  | ⟨0, _⟩ => show 0 + 64 ≤ 64; omega
  | ⟨1, _⟩ => show 128 * c.val + 128 ≤ 13312; omega

/-- Slab `c` lies within the scratch buffer. -/
theorem scaleStore_inb (c : Fin 104) :
    ∀ a, (![c.val, 0, 0, 0] : Fin 4 → Nat) a + S1x64x2x128.size a ≤ S104x64x2x128.size a := by
  have hc := c.isLt
  intro a
  match a with
  | ⟨0, _⟩ => show c.val + 1 ≤ 104; omega
  | ⟨1, _⟩ => show 0 + 64 ≤ 64; omega
  | ⟨2, _⟩ => show 0 + 2 ≤ 2; omega
  | ⟨3, _⟩ => show 0 + 128 ≤ 128; omega

/-- The store of one lane group of scales: each row of scales twice, widened and rounded. -/
def scalePiece (arg3 : Memref sig .tc .vmem S64x13312 .fp8e4m3) (X : BufTy.Contents (Elt F) arg3.view.ty) (c : Fin 104) :
    View.Piece (Elt F) S104x64x2x128 .bf16 :=
  ⟨Rect.unit (s := S104x64x2x128) ![c.val, 0, 0, 0] S1x64x2x128.size (scaleStore_inb c),
    k0_pay172 (arg3.view.readAt (Elt F)
      (Rect.unit (s := S64x13312) ![0, 128 * c.val] S64x128.size (scaleLoad_inb c)).toLoadRect X)⟩

/-- The stores of all lane groups of scales, the last first. -/
def scalePieces (arg3 : Memref sig .tc .vmem S64x13312 .fp8e4m3) (X : BufTy.Contents (Elt F) arg3.view.ty) :
    List (View.Piece (Elt F) S104x64x2x128 .bf16) :=
  List.ofFn fun c : Fin 104 => scalePiece arg3 X c.rev

/-- The stores of the packed scales at a first point of the grid. -/
theorem scalePieces_A (c : Dev nD) (arg3 : Memref sig .tc .vmem S64x13312 .fp8e4m3) (harg3 : arg3.IsWhole)
    (x2 : Vec F S64x13312 .fp8e4m3) :
    kernelRun0_A.sl.HS1_104 c arg3 harg3 x2 = scalePieces arg3 (harg3.unread x2) := rfl

/-- The stores of the packed scales at a middle point of the grid. -/
theorem scalePieces_B (c : Dev nD) (arg3 : Memref sig .tc .vmem S64x13312 .fp8e4m3) (harg3 : arg3.IsWhole)
    (x2 : Vec F S64x13312 .fp8e4m3) :
    kernelRun0_B.sl.HS1_104 c arg3 harg3 x2 = scalePieces arg3 (harg3.unread x2) := rfl

/-- The stores of the packed scales at a last point of the grid. -/
theorem scalePieces_C (c : Dev nD) (arg3 : Memref sig .tc .vmem S64x13312 .fp8e4m3) (harg3 : arg3.IsWhole)
    (x2 : Vec F S64x13312 .fp8e4m3) :
    kernelRun0_C.sl.HS1_104 c arg3 harg3 x2 = scalePieces arg3 (harg3.unread x2) := rfl

end Cert.KernelIdeal.Tile

end
-- ==== Proof.Nibble.lean ====
module

public import Idealize.ShloMosaic.PureOps.Ideal.Laws

@[expose] public section

noncomputable section

namespace Cert.Dequant

open Idealize.ShloMosaic

/-- Twice the magnitude of an e2m1 code held in a 32-bit word: the exponent bits are 6, the mantissa bit is 1. -/
def twice (c : BitVec 32) : BitVec 32 :=
  Scalar.select (IntOp.cmpi .slt (IntOp.andi c 7#32) 4#32) (IntOp.andi c 7#32)
    (Scalar.select (IntOp.cmpi .slt (IntOp.andi c 7#32) 6#32)
      (IntOp.subi (IntOp.muli 2#32 (IntOp.andi c 7#32)) 4#32)
      (IntOp.subi (IntOp.muli 4#32 (IntOp.andi c 7#32)) 16#32))

/-- The low nibble of a packed byte, as a word. -/
def nibLo (w : BitVec 8) : BitVec 32 := IntOp.andi (w.setWidth 32) 15#32

/-- The high nibble of a packed byte, as a word. -/
def nibHi (w : BitVec 8) : BitVec 32 := IntOp.shrsi .vector (w.setWidth 32) 4#32

/-- The nibble of a packed byte that row `k` of the weights takes: the low one on even rows, the high one on odd. -/
def code (w : BitVec 8) (k : ℕ) : BitVec 32 := if k % 2 = 0 then nibLo w else nibHi w

/-- The fp8 pattern of the low nibble: its sign moved to bit 7, its magnitude to the bits 4, 3 and 2. -/
def fp8Lo (w : BitVec 8) : BitVec 8 :=
  (IntOp.ori (IntOp.shli .vector (IntOp.andi (w.setWidth 32) 8#32) 4#32)
    (IntOp.shli .vector (IntOp.andi (w.setWidth 32) 7#32) 2#32)).setWidth 8

/-- The fp8 pattern of the high nibble: its sign kept at bit 7, its magnitude moved to the bits 4, 3 and 2. -/
def fp8Hi (w : BitVec 8) : BitVec 8 :=
  (IntOp.ori (IntOp.andi (w.setWidth 32) 128#32)
    (IntOp.andi (IntOp.shrsi .vector (w.setWidth 32) 2#32) 28#32)).setWidth 8

/-- The e2m1 value of a code, as an extended real: its sign bit is 8. -/
def e2m1 (c : BitVec 32) : EReal :=
  (FloatOps.sitofp (F := Ideal) .f32 (twice c) : EReal)
    * Scalar.select (IntOp.cmpi .slt c 8#32) (Ideal.ofBits .f32 0x3F000000#32) (Ideal.ofBits .f32 0xBF000000#32)

/-- The fp8 pattern with the sign of a code at bit 7 and its magnitude at the bits 4, 3 and 2. -/
def fp8Of (n : BitVec 4) : BitVec 8 := ((n &&& 8#4).setWidth 8 <<< 4) ||| ((n &&& 7#4).setWidth 8 <<< 2)

/-- The low nibble of a byte is its last four bits. -/
theorem nibLo_eq (w : BitVec 8) : nibLo w = (w.setWidth 4).setWidth 32 := by
  revert w; decide +kernel

/-- The high nibble of a byte is its first four bits. -/
theorem nibHi_eq (w : BitVec 8) : nibHi w = ((w >>> 4).setWidth 4).setWidth 32 := by
  revert w; decide +kernel

/-- The fp8 pattern of the low nibble is that of its code. -/
theorem fp8Lo_eq (w : BitVec 8) : fp8Lo w = fp8Of (w.setWidth 4) := by
  revert w; decide +kernel

/-- The fp8 pattern of the high nibble is that of its code. -/
theorem fp8Hi_eq (w : BitVec 8) : fp8Hi w = fp8Of ((w >>> 4).setWidth 4) := by
  revert w; decide +kernel

/-- The bit pattern of one half denotes one half. -/
theorem half_eq : Ideal.ofBits .f32 0x3F000000#32 = (((1 : ℝ) / 2 : ℝ) : EReal) := by
  simp [Ideal.ofBits, Ideal.ieee, -EReal.coe_mul]; norm_num

/-- The bit pattern of minus one half denotes minus one half. -/
theorem minusHalf_eq : Ideal.ofBits .f32 0xBF000000#32 = ((-(1 / 2) : ℝ) : EReal) := by
  simp [Ideal.ofBits, Ideal.ieee, -EReal.coe_mul, -EReal.coe_neg]; norm_num

/-- The bit pattern of sixty-four denotes sixty-four. -/
theorem sixtyFour_eq : Ideal.ofBits .f32 0x42800000#32 = ((64 : ℝ) : EReal) := by
  simp [Ideal.ofBits, Ideal.ieee, -EReal.coe_mul]; norm_num

/-- Of each of the sixteen codes: its e2m1 value is sixty-four times the value of its fp8 pattern. -/
theorem e2m1_eq_fp8 (n : BitVec 4) :
    e2m1 (n.setWidth 32) = ((64 : ℝ) : EReal) * Ideal.ofBits .fp8e4m3 (fp8Of n) := by
  have h : ∀ k : Fin 16, e2m1 ((BitVec.ofFin (w := 4) k).setWidth 32)
      = ((64 : ℝ) : EReal) * Ideal.ofBits .fp8e4m3 (fp8Of (BitVec.ofFin (w := 4) k)) := by
    intro k
    have ht : ∀ c : BitVec 32, (FloatOps.sitofp (F := Ideal) .f32 c : EReal) = ((c.toInt : ℝ) : EReal) := fun _ => rfl
    unfold e2m1
    rw [half_eq, minusHalf_eq, ht]
    fin_cases k <;>
      simp [Ideal.ofBits, Ideal.e4m3fn, twice, fp8Of, Scalar.select, IntOp.cmpi, IntOp.andi, IntOp.subi, IntOp.muli, BitVec.slt, ← EReal.coe_mul, -EReal.coe_mul, ← EReal.coe_neg, -EReal.coe_neg] <;> norm_num [← EReal.coe_mul]
  exact h n.toFin

/-- The e2m1 value of a byte's low nibble is sixty-four times that of its fp8 pattern. -/
theorem e2m1_nibLo (w : BitVec 8) : e2m1 (nibLo w) = ((64 : ℝ) : EReal) * Ideal.ofBits .fp8e4m3 (fp8Lo w) := by
  rw [nibLo_eq, fp8Lo_eq, e2m1_eq_fp8]

/-- The e2m1 value of a byte's high nibble is sixty-four times that of its fp8 pattern. -/
theorem e2m1_nibHi (w : BitVec 8) : e2m1 (nibHi w) = ((64 : ℝ) : EReal) * Ideal.ofBits .fp8e4m3 (fp8Hi w) := by
  rw [nibHi_eq, fp8Hi_eq, e2m1_eq_fp8]

end Cert.Dequant

end
-- ==== Proof.Tile.lean ====
module

public import proofs.«01_k».proof.Proof.Scales
public import proofs.«01_k».proof.Proof.Nibble
public import Idealize.ShloMosaic.Lib.MatmulPlain

@[expose] public section

set_option maxRecDepth 65536

noncomputable section

namespace Cert.KernelIdeal.Tile

open Cert.KernelIdeal Cert.KernelIdeal.Gen Cert.Dequant Idealize.ShloMosaic.ValueIdx
open Idealize.ShloMosaic hiding ix0 ix1 ix2 ix3 ix4

/-- Two halves interleaved: row `k` is row `k / 2` of the half that the parity of `k` names. -/
theorem interleave_apply (lo hi : FVec Ideal S512x128 .bf16) (k : Fin 1024) (l : Fin 128) :
    interleaveRows S1024x128 lo hi bitcasts_S1024x128_w16_S512x128_w32 (ix2 k l)
      = if k.val % 2 = 0 then lo (ix2 ⟨k.val / 2, by have := k.isLt; omega⟩ l)
        else hi (ix2 ⟨k.val / 2, by have := k.isLt; omega⟩ l) := by
  have hrow : S1024x128.row (ix2 k l) = k.val := rfl
  unfold interleaveRows
  dsimp only
  rw [hrow]
  split
  · refine congrArg lo (funext fun a => Fin.ext ?_)
    match a with
    | ⟨0, _⟩ => rfl
    | ⟨1, _⟩ => rfl
  · refine congrArg hi (funext fun a => Fin.ext ?_)
    match a with
    | ⟨0, _⟩ => rfl
    | ⟨1, _⟩ => rfl

/-- Decoded row `k` holds the e2m1 values of the nibbles of byte row `k / 2` that the parity of `k` names. -/
theorem decode_apply (w : Vec Ideal S512x128 .i8) (k : Fin 1024) (l : Fin 128) :
    decode w (ix2 k l) = e2m1 (code (w (ix2 ⟨k.val / 2, by have := k.isLt; omega⟩ l)) k.val) := by
  unfold decode k0_pay8 code
  refine (interleave_apply _ _ k l).trans ?_
  split
  · rfl
  · rfl

/-- Both stored rows of block `b` of a lane group are row `b` of its scales. -/
theorem scaleStore_apply (s : Vec Ideal S64x128 .fp8e4m3) (i : S1x64x2x128.Idx) :
    k0_pay172 s i = s (ix2 ⟨(i 1).val, (i 1).isLt⟩ ⟨(i 3).val, (i 3).isLt⟩) := by
  have hc : ∀ j : S1x64x1x128.Idx, (j 1).val = (i 1).val → (j 3).val = (i 3).val →
      shapeCast S1x64x1x128 (shapeCast S1x64x128 (truncf (F := Ideal) .bf16 (extf .f32 s bitsLt_fp8e4m3_f32))
        shapeCasts_S64x128_S1x64x128) shapeCasts_S1x64x128_S1x64x1x128 j
      = s (ix2 ⟨(i 1).val, (i 1).isLt⟩ ⟨(i 3).val, (i 3).isLt⟩) := fun j h1 h3 => by
    have h0 : (j 0).val = 0 := by have : (j 0).val < 1 := (j 0).isLt; omega
    have h2 : (j 2).val = 0 := by have : (j 2).val < 1 := (j 2).isLt; omega
    rw [shapeCast_apply _ shapeCasts_S1x64x128_S1x64x1x128 j
        (ix3 (0 : Fin 1) ⟨(i 1).val, (i 1).isLt⟩ ⟨(i 3).val, (i 3).isLt⟩)
        (by rewrite [Shape.rowMajor_val_three, Shape.rowMajor_val_four, h0, h1, h2, h3]
            show (0 * 64 + (i 1).val) * 128 + (i 3).val = ((0 * 64 + (i 1).val) * 1 + 0) * 128 + (i 3).val
            omega),
      shapeCast_apply _ shapeCasts_S64x128_S1x64x128 _ (ix2 ⟨(i 1).val, (i 1).isLt⟩ ⟨(i 3).val, (i 3).isLt⟩)
        (by rewrite [Shape.rowMajor_val_three, Shape.rowMajor_val_two]
            show (i 1).val * 128 + (i 3).val = (0 * 64 + (i 1).val) * 128 + (i 3).val
            omega)]
    rfl
  unfold k0_pay172
  dsimp only
  unfold interleaveRows
  dsimp only
  split
  · exact hc _ rfl rfl
  · exact hc _ rfl rfl

/-- The scratch buffer after the stores of the scales: both rows stored for block `b` of lane group `c` are row `b`
    of the scales of the group. -/
theorem scratch_apply (arg7 : Memref sig .tc .vmem S104x64x2x128 .bf16) (arg3 : Memref sig .tc .vmem S64x13312 .fp8e4m3)
    (f : BufTy.Contents (Elt Ideal) arg7.view.ty) (X : BufTy.Contents (Elt Ideal) arg3.view.ty) (y : S104x64x2x128.Idx)
    (q : S64x13312.Idx) (h0 : (q 0).val = (y 1).val) (h1 : (q 1).val = 128 * (y 0).val + (y 3).val) :
    arg7.view.read (Elt Ideal) (arg7.view.writes (Elt Ideal) f (scalePieces arg3 X)) y
      = arg3.view.read (Elt Ideal) X q := by
  have hy0 : (y 0).val < 104 := (y 0).isLt
  have hy1 : (y 1).val < 64 := (y 1).isLt
  have hy2 : (y 2).val < 2 := (y 2).isLt
  have hy3 : (y 3).val < 128 := (y 3).isLt
  have hcov : ∃ p ∈ scalePieces arg3 X, y ∈ p.1.set := by
    refine ⟨scalePiece arg3 X ⟨(y 0).val, hy0⟩, ?_, ?_⟩
    · unfold scalePieces
      rw [List.mem_ofFn]
      exact ⟨(⟨(y 0).val, hy0⟩ : Fin 104).rev, by simp only [Fin.rev_rev]⟩
    · unfold scalePiece
      rw [Rect.mem_set_unit]
      intro a
      match a with
      | ⟨0, _⟩ => exact ⟨Nat.le_refl _, Nat.lt_succ_self _⟩
      | ⟨1, _⟩ => exact ⟨Nat.zero_le _, by show (y 1).val < 0 + 64; omega⟩
      | ⟨2, _⟩ => exact ⟨Nat.zero_le _, by show (y 2).val < 0 + 2; omega⟩
      | ⟨3, _⟩ => exact ⟨Nat.zero_le _, by show (y 3).val < 0 + 128; omega⟩
  let G : S104x64x2x128.Idx → EReal := fun y =>
    arg3.view.read (Elt Ideal) X (ix2 (⟨(y 1).val, (y 1).isLt⟩ : Fin 64)
      (⟨128 * (y 0).val + (y 3).val, by
        have h0 : (y 0).val < 104 := (y 0).isLt
        have h3 : (y 3).val < 128 := (y 3).isLt
        omega⟩ : Fin 13312))
  rw [View.read_writes_apply_eq_canon arg7.view f y _ hcov,
    View.canon_apply_of_pieces (Val := Elt Ideal) (e := .bf16) G _ (fun p hp x => ?_) y hcov]
  · refine congrArg (arg3.view.read (Elt Ideal) X) (funext fun a => Fin.ext ?_)
    match a with
    | ⟨0, _⟩ => exact h0.symm
    | ⟨1, _⟩ => exact h1.symm
  · unfold scalePieces at hp
    rw [List.mem_ofFn] at hp
    obtain ⟨c, rfl⟩ := hp
    unfold scalePiece at x ⊢
    show k0_pay172 _ x = _
    rw [scaleStore_apply]
    refine congrArg (arg3.view.read (Elt Ideal) X) (funext fun a => Fin.ext ?_)
    match a with
    | ⟨0, _⟩ => show 0 + 1 * (x 1).val = 0 + 1 * (x 1).val; rfl
    | ⟨1, _⟩ =>
      have hx0 : (x 0).val < 1 := (x 0).isLt
      show 128 * c.rev.val + 1 * (x 3).val = 128 * (c.rev.val + 1 * (x 0).val) + (0 + 1 * (x 3).val)
      omega

/-- One stored tile: the tile as found plus the product of `x` with the two columns side by side. -/
theorem tile_apply (x : Vec Ideal S8x1024 .bf16) (c0 c1 : FVec Ideal S1024x128 .bf16) (acc : Vec Ideal S8x256 .f32)
    (r : Fin 8) (j : Fin 256) (W : Fin 1024 → EReal)
    (hW : ∀ k, W k = if h : j.val < 128 then c0 (ix2 k ⟨j.val, h⟩) else c1 (ix2 k ⟨j.val - 128, by have := j.isLt; omega⟩)) :
    k0_pay337 x c0 c1 acc (ix2 r j) = (acc (ix2 r j) : EReal) + ∑ k : Fin 1024, (x (ix2 r k) : EReal) * W k := by
  unfold k0_pay337
  rw [shapeCast_apply _ shapeCasts_S8x256_S8x256 (ix2 r j) (ix2 r j) rfl]
  refine congrArg ((acc (ix2 r j) : EReal) + ·) ?_
  refine (Ideal.matmul_plain_apply (M := 8) (K := 1024) (N := 256) none _ _ _ r j).trans ?_
  rw [show constant (F := Ideal) S8x256 .f32 0x00000000#32 (ix2 r j) = (0 : EReal) from Ideal.ofBits_zero_f32, zero_add]
  refine Finset.sum_congr rfl fun k _ => ?_
  rw [shapeCast_apply x shapeCasts_S8x1024_S8x1024 (ix2 r k) (ix2 r k) rfl, hW k]
  refine congrArg (x (ix2 r k) * ·) ?_
  split
  · rename_i h
    exact concatenate_pair_apply_left (t := S1024x256) 1 c0 c1 _ (ix2 k j) rfl (ix2 k ⟨j.val, h⟩) (by
      intro b
      match b with
      | ⟨0, _⟩ => rfl
      | ⟨1, _⟩ => rfl)
  · rename_i h
    exact concatenate_pair_apply_right (t := S1024x256) 1 c0 c1 _ (ix2 k j) rfl rfl
      (ix2 k ⟨j.val - 128, by have := j.isLt; omega⟩) (by
      intro b hb
      match b with
      | ⟨0, _⟩ => rfl
      | ⟨1, _⟩ => exact absurd rfl hb) (by show j.val - 128 + 128 = j.val; omega)

end Cert.KernelIdeal.Tile

end
-- ==== Proof.Loop.lean ====
module

public import proofs.«01_k».proof.Proof.Tile
public import Idealize.ShloMosaic.Lib.Writes

@[expose] public section

set_option maxRecDepth 65536

noncomputable section

namespace Cert.KernelIdeal.Tile

open Cert.KernelIdeal Cert.KernelIdeal.Gen Cert.Dequant Idealize.ShloMosaic.ValueIdx
open Idealize.ShloMosaic hiding ix0 ix1 ix2 ix3 ix4

/-- The weight of row `k` and column `c` within one stretch of 1024 rows: the e2m1 value of its nibble times the scale
    of its block of sixteen rows. -/
def weight (w : Vec Ideal S512x13312 .i8) (s : Vec Ideal S64x13312 .fp8e4m3) (k : Fin 1024) (c : Fin 13312) : EReal :=
  e2m1 (code (w (ix2 ⟨k.val / 2, by have := k.isLt; omega⟩ c)) k.val) * (s (ix2 ⟨k.val / 16, by have := k.isLt; omega⟩ c) : EReal)

/-- What one stretch of 1024 rows adds to entry `(r, c)` of the product. -/
def stretch (x : Vec Ideal S8x1024 .bf16) (w : Vec Ideal S512x13312 .i8) (s : Vec Ideal S64x13312 .fp8e4m3)
    (r : Fin 8) (c : Fin 13312) : EReal :=
  ∑ k : Fin 1024, (x (ix2 r k) : EReal) * weight w s k c

section Loop

variable (c : Dev nD) (i : grid0.Coords) (arg1 : Memref sig .tc .vmem S8x1024 .bf16) (harg1 : arg1.IsWhole)
  (arg2 : Memref sig .tc .vmem S512x13312 .i8) (harg2 : arg2.IsWhole) (arg3 : Memref sig .tc .vmem S64x13312 .fp8e4m3) (harg3 : arg3.IsWhole)
  (arg4 : Memref sig .tc .smem S1 .f32) (harg4 : arg4.IsWhole) (arg5 : Memref sig .tc .vmem S8x13312 .bf16) (harg5 : arg5.IsWhole)
  (arg6 : Memref sig .tc .vmem S8x13312 .f32) (harg6 : arg6.IsWhole) (arg7 : Memref sig .tc .vmem S104x64x2x128 .bf16) (harg7 : arg7.IsWhole)
  (x : Vec Ideal S8x1024 .bf16) (w : Vec Ideal S512x13312 .i8) (s : Vec Ideal S64x13312 .fp8e4m3)
  (f7 : BufTy.Contents (Elt Ideal) arg7.view.ty) (G : BufTy.Contents (Elt Ideal) arg6.view.ty)

/-- The bytes loaded for a lane group, by place. -/
theorem bytesAt_apply (k : Fin k0_t1_loop.trips) (r : Fin 2) (q : Fin 512) (l : Fin 128) (h : 256 * k.val + 128 * r.val + l.val < 13312) :
    bytesAt arg2 (harg2.unread w) k r (ix2 q l) = w (ix2 q ⟨256 * k.val + 128 * r.val + l.val, h⟩) := by
  show arg2.view.read (Elt Ideal) (harg2.unread w) _ = _
  rw [harg2.read_unread]
  refine congrArg w (funext fun a => Fin.ext ?_)
  have e := k0_off1_eq k r
  match a with
  | ⟨0, _⟩ =>
    show k0_off1 k (BitVec.ofNat 32 r.val) 0 + 1 * q.val = q.val
    rw [e]
    show 0 + 1 * q.val = q.val
    omega
  | ⟨1, _⟩ =>
    show k0_off1 k (BitVec.ofNat 32 r.val) 1 + 1 * l.val = 256 * k.val + 128 * r.val + l.val
    rw [e]
    show 256 * k.val + 128 * r.val + 1 * l.val = 256 * k.val + 128 * r.val + l.val
    omega

/-- The scale rows loaded for a block, by place: the row of scales of the block, at either parity. -/
theorem pairAt_apply (k : Fin k0_t1_loop.trips) (r : Fin 2) (b : Fin 64) (p : Fin 2) (l : Fin 128)
    (h : 256 * k.val + 128 * r.val + l.val < 13312) :
    pairAt arg7 (arg7.view.writes (Elt Ideal) f7 (scalePieces arg3 (harg3.unread s))) k r b (pairIdx p l)
      = s (ix2 b ⟨256 * k.val + 128 * r.val + l.val, h⟩) := by
  have e := rowOff_eq k r b
  show arg7.view.read (Elt Ideal) (arg7.view.writes (Elt Ideal) f7 (scalePieces arg3 (harg3.unread s))) _ = _
  rw [scratch_apply arg7 arg3 f7 (harg3.unread s) _ (ix2 b ⟨256 * k.val + 128 * r.val + l.val, h⟩), harg3.read_unread]
  · show b.val = rowOff k r b 1 + 1 * 0
    rw [e]
    rfl
  · show 256 * k.val + 128 * r.val + l.val = 128 * (rowOff k r b 0 + 1 * 0) + (rowOff k r b 3 + 1 * l.val)
    rw [e]
    show 256 * k.val + 128 * r.val + l.val = 128 * (2 * k.val + r.val + 1 * 0) + (0 + 1 * l.val)
    omega

/-- One column of scaled weights, by place. -/
theorem weights_apply (k : Fin k0_t1_loop.trips) (r : Fin 2) (q : Fin 1024) (l : Fin 128)
    (h : 256 * k.val + 128 * r.val + l.val < 13312) :
    col (decode (bytesAt arg2 (harg2.unread w) k r))
        (pairAt arg7 (arg7.view.writes (Elt Ideal) f7 (scalePieces arg3 (harg3.unread s))) k r) (ix2 q l)
      = weight w s q ⟨256 * k.val + 128 * r.val + l.val, h⟩ := by
  rw [col_apply, decode_apply, bytesAt_apply arg2 harg2 w k r _ l h,
    pairAt_apply arg3 harg3 arg7 s f7 k r _ _ l h]
  rfl

/-- What trip `k` stores at row `r`, lane `j` of its tile. -/
theorem trip_apply (k : Fin k0_t1_loop.trips) (acc : Vec Ideal S8x256 .f32) (r : Fin 8) (j : Fin 256) (h : 256 * k.val + j.val < 13312) :
    k0_pay337 x
        (col (decode (bytesAt arg2 (harg2.unread w) k 0))
          (pairAt arg7 (arg7.view.writes (Elt Ideal) f7 (scalePieces arg3 (harg3.unread s))) k 0))
        (col (decode (bytesAt arg2 (harg2.unread w) k 1))
          (pairAt arg7 (arg7.view.writes (Elt Ideal) f7 (scalePieces arg3 (harg3.unread s))) k 1)) acc (ix2 r j)
      = (acc (ix2 r j) : EReal) + stretch x w s r ⟨256 * k.val + j.val, h⟩ := by
  refine tile_apply x _ _ acc r j (fun q => weight w s q ⟨256 * k.val + j.val, h⟩) (fun q => ?_)
  have hj := j.isLt
  split
  · rename_i hl
    rw [weights_apply arg2 harg2 arg3 harg3 arg7 w s f7 k 0 q ⟨j.val, hl⟩ h]
    rfl
  · rename_i hl
    rw [weights_apply arg2 harg2 arg3 harg3 arg7 w s f7 k 1 q ⟨j.val - 128, by omega⟩
      (by show 256 * k.val + 128 * 1 + (j.val - 128) < 13312; omega)]
    refine congrArg (weight w s q) (Fin.ext ?_)
    show 256 * k.val + j.val = 256 * k.val + 128 * 1 + (j.val - 128)
    omega

/-- The stores of the first `n` trips into the accumulator, the last first. -/
abbrev stores (n : ℕ) : List (View.Piece (Elt Ideal) S8x13312 .f32) :=
  pb_k0_t1 (F := Ideal) Variants.none c none i arg1 harg1 arg2 harg2 arg3 harg3 arg4 harg4 arg5 harg5 arg6 harg6 arg7 harg7 x
    (harg2.unread w) (arg7.view.writes (Elt Ideal) f7 (scalePieces arg3 (harg3.unread s))) G n

/-- After `n` trips, the first `256 n` lanes of the accumulator hold what they held at loop entry plus the stretch's
    sum, whatever contents the stores are replayed over, and the other lanes hold what they are replayed over. -/
theorem stores_apply (n : ℕ) (hn : n ≤ 52) (f : BufTy.Contents (Elt Ideal) arg6.view.ty) (r : Fin 8) (q : Fin 13312) :
    arg6.view.read (Elt Ideal) (arg6.view.writes (Elt Ideal) f
        (stores c i arg1 harg1 arg2 harg2 arg3 harg3 arg4 harg4 arg5 harg5 arg6 harg6 arg7 harg7 x w s f7 G n)) (ix2 r q)
      = if q.val < 256 * n then (arg6.view.read (Elt Ideal) G (ix2 r q) : EReal) + stretch x w s r q
        else arg6.view.read (Elt Ideal) f (ix2 r q) := by
  induction n generalizing f with
  | zero => rw [if_neg (by omega)]; rfl
  | succ n ih =>
    have ht : n < k0_t1_loop.trips := by
      rw [show k0_t1_loop.trips = 52 from by decide +kernel]; omega
    have hs := pb_k0_t1_succ (F := Ideal) Variants.none c none i arg1 harg1 arg2 harg2 arg3 harg3 arg4 harg4 arg5 harg5 arg6 harg6
      arg7 harg7 x (harg2.unread w) (arg7.view.writes (Elt Ideal) f7 (scalePieces arg3 (harg3.unread s))) G ⟨n, ht⟩
    rw [tripL_eq] at hs
    unfold stores
    rw [hs, List.cons_append, List.nil_append]
    have e := k0_off66_eq ⟨n, ht⟩
    by_cases h1 : q.val < 256 * n
    · rw [if_pos (by omega), View.read_writes_cons_unit_of_not_mem arg6.view f _ _ _ (ix2 r q) e (1 : Fin 2)
        (Or.inl (by show q.val < 256 * n; exact h1))]
      exact (ih (by omega) f).trans (if_pos h1)
    · by_cases h2 : q.val < 256 * (n + 1)
      · rw [if_pos h2]
        refine (View.read_writes_cons_unit_of_mem arg6.view f _ _ _ (ix2 r q)
          (ix2 r (⟨q.val - 256 * n, by omega⟩ : Fin 256)) e ?_).trans ?_
        · intro a
          match a with
          | ⟨0, _⟩ => show r.val = 0 + r.val; omega
          | ⟨1, _⟩ => show q.val = 256 * n + (q.val - 256 * n); omega
        have hq : (⟨256 * n + (q.val - 256 * n), by have := q.isLt; omega⟩ : Fin 13312) = q := Fin.ext (by
          show 256 * n + (q.val - 256 * n) = q.val; omega)
        refine (trip_apply arg2 harg2 arg3 harg3 arg7 x w s f7 ⟨n, ht⟩ _ r ⟨q.val - 256 * n, by omega⟩
          (by have := q.isLt; show 256 * n + (q.val - 256 * n) < 13312; omega)).trans ?_
        refine congrArg₂ (fun a b : EReal => a + b) ?_ (congrArg (stretch x w s r) hq)
        show arg6.view.read (Elt Ideal) _ _ = _
        refine Eq.trans (congrArg _ (?_ : _ = ix2 r q)) ((ih (by omega) G).trans (if_neg h1))
        funext a
        refine Fin.ext ?_
        match a with
        | ⟨0, _⟩ =>
          show k0_off66 ⟨n, ht⟩ 0 + 1 * r.val = r.val
          rw [e]
          show 0 + 1 * r.val = r.val
          omega
        | ⟨1, _⟩ =>
          show k0_off66 ⟨n, ht⟩ 1 + 1 * (q.val - 256 * n) = q.val
          rw [e]
          show 256 * n + 1 * (q.val - 256 * n) = q.val
          omega
      · rw [if_neg h2, View.read_writes_cons_unit_of_not_mem arg6.view f _ _ _ (ix2 r q) e (1 : Fin 2)
          (Or.inr (by show 256 * n + 256 ≤ q.val; omega))]
        exact (ih (by omega) f).trans (if_neg h1)

/-- After the loop every lane of the accumulator holds what it held at loop entry plus the stretch's sum. -/
theorem stores_all (n : ℕ) (hn : n = 52) (f : BufTy.Contents (Elt Ideal) arg6.view.ty) (r : Fin 8) (q : Fin 13312) :
    arg6.view.read (Elt Ideal) (arg6.view.writes (Elt Ideal) f
        (stores c i arg1 harg1 arg2 harg2 arg3 harg3 arg4 harg4 arg5 harg5 arg6 harg6 arg7 harg7 x w s f7 G n)) (ix2 r q)
      = (arg6.view.read (Elt Ideal) G (ix2 r q) : EReal) + stretch x w s r q := by
  subst hn
  rw [stores_apply c i arg1 harg1 arg2 harg2 arg3 harg3 arg4 harg4 arg5 harg5 arg6 harg6 arg7 harg7 x w s f7 G 52 (Nat.le_refl _) f r q]
  exact if_pos (by have := q.isLt; omega)

end Loop

end Cert.KernelIdeal.Tile

end
-- ==== Proof.Step.lean ====
module

public import proofs.«01_k».proof.Proof.Loop
public import proofs.«01_k».proof.Proof.Gen.KernelIdeal.Frame

@[expose] public section

set_option maxRecDepth 65536

noncomputable section

namespace Cert.KernelIdeal.Tile

open Cert.KernelIdeal Cert.KernelIdeal.Gen Cert.Dequant Idealize.ShloMosaic.ValueIdx
open Idealize.ShloMosaic hiding ix0 ix1 ix2 ix3 ix4

section Step

variable (c : Dev nD) (i : grid0.Coords) (arg1 : Memref sig .tc .vmem S8x1024 .bf16) (harg1 : arg1.IsWhole)
  (arg2 : Memref sig .tc .vmem S512x13312 .i8) (harg2 : arg2.IsWhole) (arg3 : Memref sig .tc .vmem S64x13312 .fp8e4m3) (harg3 : arg3.IsWhole)
  (arg4 : Memref sig .tc .smem S1 .f32) (harg4 : arg4.IsWhole) (arg5 : Memref sig .tc .vmem S8x13312 .bf16) (harg5 : arg5.IsWhole)
  (arg7 : Memref sig .tc .vmem S104x64x2x128 .bf16) (harg7 : arg7.IsWhole)
  (x : Vec Ideal S8x1024 .bf16) (w : Vec Ideal S512x13312 .i8) (s : Vec Ideal S64x13312 .fp8e4m3) (g : Vec Ideal S1 .f32)

/-- The load of the whole block of `x` reads it unchanged. -/
theorem xLoad_eq :
    arg1.view.readAt (Elt Ideal) (Rect.unit ![0, 0] S8x1024.size inb_S8x1024_S8x1024_0_0).toLoadRect (harg1.unread x) = x := by
  show View.ld (arg1.view.read (Elt Ideal) (harg1.unread x)) (Rect.unit ![0, 0] S8x1024.size inb_S8x1024_S8x1024_0_0) = x
  rw [harg1.read_unread]
  exact View.ld_unit_zero (funext fun a => by match a with | ⟨0, _⟩ => rfl | ⟨1, _⟩ => rfl) _ x

/-- A load of the whole accumulator reads its contents. -/
theorem accLoad_eq (arg6 : Memref sig .tc .vmem S8x13312 .f32) (f : BufTy.Contents (Elt Ideal) arg6.view.ty) :
    arg6.view.readAt (Elt Ideal) (Rect.unit ![0, 0] S8x13312.size inb_S8x13312_S8x13312_0_0).toLoadRect f = arg6.view.read (Elt Ideal) f :=
  View.ld_unit_zero (funext fun a => by match a with | ⟨0, _⟩ => rfl | ⟨1, _⟩ => rfl) _ _

/-- The fill of the accumulator at the first grid point is zero everywhere. -/
theorem zeroFill_apply (y : S8x13312.Idx) : (k0_pay171 (F := Ideal) : FVec Ideal S8x13312 .f32) y = (0 : EReal) := by
  unfold k0_pay171
  exact Ideal.ofBits_zero_f32

/-- After the first grid point the accumulator holds the first stretch's sum. -/
theorem sout_A (harg6 : scM0_0.IsWhole) (hc0 : cond0_0 i) (hc1 : ¬cond0_1 i) (r : Fin 8) (q : Fin 13312) :
    sout0_A_0 (F := Ideal) c i arg1 harg1 arg2 harg2 arg3 harg3 arg4 harg4 arg5 harg5 scM0_0 harg6 arg7 harg7 hc0 hc1 x w s g (ix2 r q)
      = stretch x w s r q := by
  unfold sout0_A_0 kernelRun0_A
  dsimp only
  rw [scalePieces_A, View.writes_append]
  have hx := xLoad_eq arg1 harg1 x
  refine (congrArg (fun v => scM0_0.view.read (Elt Ideal) (scM0_0.view.writes (Elt Ideal) _
    (pb_k0_t1 (F := Ideal) Variants.none c none i arg1 harg1 arg2 harg2 arg3 harg3 arg4 harg4 arg5 harg5 scM0_0 harg6 arg7 harg7 v
      (harg2.unread w) _ _ _)) (ix2 r q)) hx).trans ?_
  refine (stores_all c i arg1 harg1 arg2 harg2 arg3 harg3 arg4 harg4 arg5 harg5 scM0_0 harg6 arg7 harg7 x w s _ _ _
    (by decide +kernel) _ r q).trans ?_
  have h0 : scM0_0.view.read (Elt Ideal) (scM0_0.view.writes (Elt Ideal) scM0_0.view.junk (kernelRun0_A.sl.HS0_1 (F := Ideal))) (ix2 r q)
      = (0 : EReal) := by
    unfold kernelRun0_A.sl.HS0_1
    refine (View.read_writes_cons_unit_of_mem scM0_0.view _ _ _ _ (ix2 r q) (ix2 r q) rfl ?_).trans (zeroFill_apply _)
    intro a
    match a with
    | ⟨0, _⟩ => show r.val = 0 + r.val; omega
    | ⟨1, _⟩ => show q.val = 0 + q.val; omega
  refine (congrArg (fun v : EReal => v + stretch x w s r q) h0).trans (zero_add _)

/-- After an inner grid point the accumulator holds what it held plus the point's stretch. -/
theorem sout_B (harg6 : scM0_0.IsWhole) (hc0 : ¬cond0_0 i) (hc1 : ¬cond0_1 i) (acc : Vec Ideal S8x13312 .f32) (r : Fin 8) (q : Fin 13312) :
    sout0_B_0 (F := Ideal) c i arg1 harg1 arg2 harg2 arg3 harg3 arg4 harg4 arg5 harg5 scM0_0 harg6 arg7 harg7 hc0 hc1 x w s g acc (ix2 r q)
      = (acc (ix2 r q) : EReal) + stretch x w s r q := by
  unfold sout0_B_0 kernelRun0_B
  dsimp only
  rw [scalePieces_B]
  have hx := xLoad_eq arg1 harg1 x
  refine (congrArg (fun v => scM0_0.view.read (Elt Ideal) (scM0_0.view.writes (Elt Ideal) _
    (pb_k0_t1 (F := Ideal) Variants.none c none i arg1 harg1 arg2 harg2 arg3 harg3 arg4 harg4 arg5 harg5 scM0_0 harg6 arg7 harg7 v
      (harg2.unread w) _ _ _)) (ix2 r q)) hx).trans ?_
  refine (stores_all c i arg1 harg1 arg2 harg2 arg3 harg3 arg4 harg4 arg5 harg5 scM0_0 harg6 arg7 harg7 x w s _ _ _
    (by decide +kernel) _ r q).trans ?_
  rw [harg6.read_unread]

/-- What the last grid point writes out: the accumulator plus the point's stretch, times the global scale. -/
theorem out_C (harg6 : scM0_0.IsWhole) (hc0 : ¬cond0_0 i) (hc1 : cond0_1 i) (acc : Vec Ideal S8x13312 .f32) (r : Fin 8) (q : Fin 13312) :
    out0_C_4 (F := Ideal) c i arg1 harg1 arg2 harg2 arg3 harg3 arg4 harg4 arg5 harg5 scM0_0 harg6 arg7 harg7 hc0 hc1 x w s g acc (ix2 r q)
      = ((acc (ix2 r q) : EReal) + stretch x w s r q) * (g (ix1 0) : EReal) := by
  unfold out0_C_4 kernelRun0_C
  dsimp only
  refine (View.read_writes_cons_unit_of_mem VO0_4 _ _ _ _ (ix2 r q) (ix2 r q) rfl ?_).trans ?_
  · intro a
    match a with
    | ⟨0, _⟩ => show r.val = 0 + r.val; omega
    | ⟨1, _⟩ => show q.val = 0 + q.val; omega
  unfold k0_pay1
  refine congrArg₂ (fun a b : EReal => a * b) ?_ ?_
  · unfold kernelRun0_C.sl.v633
    rw [scalePieces_C]
    refine (congrFun (accLoad_eq scM0_0 _) (ix2 r q)).trans ?_
    have hx := xLoad_eq arg1 harg1 x
    refine (congrArg (fun v => scM0_0.view.read (Elt Ideal) (scM0_0.view.writes (Elt Ideal) _
      (pb_k0_t1 (F := Ideal) Variants.none c none i arg1 harg1 arg2 harg2 arg3 harg3 arg4 harg4 arg5 harg5 scM0_0 harg6 arg7 harg7 v
        (harg2.unread w) _ _ _)) (ix2 r q)) hx).trans ?_
    refine (stores_all c i arg1 harg1 arg2 harg2 arg3 harg3 arg4 harg4 arg5 harg5 scM0_0 harg6 arg7 harg7 x w s _ _ _
      (by decide +kernel) _ r q).trans ?_
    rw [harg6.read_unread]
  · unfold kernelRun0_C.sl.r_61
    show arg4.view.read (Elt Ideal) (harg4.unread g) _ = _
    rw [harg4.read_unread]
    refine congrArg g (funext fun a => Fin.ext ?_)
    match a with
    | ⟨0, _⟩ => rfl

end Step

end Cert.KernelIdeal.Tile

end
-- ==== Proof.Sums.lean ====
module

public import Idealize.ShloMosaic.PureOps.Ideal.Laws

@[expose] public section

noncomputable section

namespace Cert.Dequant

open Finset

/-- A sum over twice as many indices is the sum over the even ones plus the sum over the odd ones. -/
theorem sum_even_odd (f : ℕ → EReal) : ∀ n : ℕ,
    ∑ k ∈ range (2 * n), f k = ∑ p ∈ range n, f (2 * p) + ∑ p ∈ range n, f (2 * p + 1)
  | 0 => by simp
  | n + 1 => by
    rw [show 2 * (n + 1) = 2 * n + 1 + 1 by ring, sum_range_succ, sum_range_succ, sum_even_odd f n, sum_range_succ,
      sum_range_succ]
    abel

/-- Sixty-four times a finite sum of extended reals is the sum of sixty-four times each term: a positive real factor
    distributes over every sum, infinite terms included. -/
theorem sixtyFour_mul_sum (f : ℕ → EReal) (n : ℕ) :
    ((64 : ℝ) : EReal) * ∑ p ∈ range n, f p = ∑ p ∈ range n, ((64 : ℝ) : EReal) * f p := by
  induction n with
  | zero => simp
  | succ n ih =>
    rw [sum_range_succ, sum_range_succ, EReal.left_distrib_of_nonneg_of_ne_top (by exact_mod_cast (by norm_num : (0 : ℝ) ≤ 64))
      (EReal.coe_ne_top _), ih]

/-- The sums of sixteen stretches of 1024 indices, accumulated stretch by stretch, are the sum over the indices of
    the stretches so far. -/
theorem sum_stretches (f : ℕ → EReal) (n : ℕ) :
    ∑ k ∈ range (1024 * n), f k + ∑ j ∈ range 1024, f (1024 * n + j) = ∑ k ∈ range (1024 * (n + 1)), f k := by
  rw [show 1024 * (n + 1) = 1024 * n + 1024 by ring, sum_range_add]

end Cert.Dequant

end
-- ==== Proof.Spec.lean ====
module

public import proofs.«01_k».proof.Proof.Nibble
public import proofs.«01_k».proof.Proof.Sums

@[expose] public section

noncomputable section

namespace Cert.Dequant

open Finset Idealize.ShloMosaic

/-- One term of the product: entry `k` of a row of activations, times the e2m1 value of weight `k` (nibble `k % 2` of
    byte `k / 2`), times the scale of the block of sixteen rows that holds `k`. Zero past the last entry. -/
def term (x : Fin 16384 → EReal) (w : Fin 8192 → BitVec 8) (s : Fin 1024 → EReal) (k : ℕ) : EReal :=
  if h : k < 16384 then x ⟨k, h⟩ * (e2m1 (code (w ⟨k / 2, by omega⟩) k) * s ⟨k / 16, by omega⟩) else 0

/-- The product of one row of activations with one column of decoded and scaled weights. -/
def product (x : Fin 16384 → EReal) (w : Fin 8192 → BitVec 8) (s : Fin 1024 → EReal) : EReal :=
  ∑ k ∈ range 16384, term x w s k

/-- The terms of the even entries are sixty-four times those of the low nibbles read as fp8. -/
theorem term_even (x : Fin 16384 → EReal) (w : Fin 8192 → BitVec 8) (s : Fin 1024 → EReal) (p : Fin 8192) :
    term x w s (2 * p.val) = ((64 : ℝ) : EReal)
      * (x ⟨2 * p.val, by have := p.isLt; omega⟩ * (Ideal.ofBits .fp8e4m3 (fp8Lo (w p)) * s ⟨p.val / 8, by have := p.isLt; omega⟩)) := by
  have hp := p.isLt
  have hw : (⟨2 * p.val / 2, by omega⟩ : Fin 8192) = p := Fin.ext (by show 2 * p.val / 2 = p.val; omega)
  have hs : (⟨2 * p.val / 16, by omega⟩ : Fin 1024) = ⟨p.val / 8, by omega⟩ := Fin.ext (by
    show 2 * p.val / 16 = p.val / 8; omega)
  unfold term
  rw [dif_pos (by omega), hw, hs]
  unfold code
  rw [if_pos (by omega), e2m1_nibLo, mul_assoc, mul_left_comm]

/-- The terms of the odd entries are sixty-four times those of the high nibbles read as fp8. -/
theorem term_odd (x : Fin 16384 → EReal) (w : Fin 8192 → BitVec 8) (s : Fin 1024 → EReal) (p : Fin 8192) :
    term x w s (2 * p.val + 1) = ((64 : ℝ) : EReal)
      * (x ⟨2 * p.val + 1, by have := p.isLt; omega⟩ * (Ideal.ofBits .fp8e4m3 (fp8Hi (w p)) * s ⟨p.val / 8, by have := p.isLt; omega⟩)) := by
  have hp := p.isLt
  have hw : (⟨(2 * p.val + 1) / 2, by omega⟩ : Fin 8192) = p := Fin.ext (by show (2 * p.val + 1) / 2 = p.val; omega)
  have hs : (⟨(2 * p.val + 1) / 16, by omega⟩ : Fin 1024) = ⟨p.val / 8, by omega⟩ := Fin.ext (by
    show (2 * p.val + 1) / 16 = p.val / 8; omega)
  unfold term
  rw [dif_pos (by omega), hw, hs]
  unfold code
  rw [if_neg (by omega), e2m1_nibHi, mul_assoc, mul_left_comm]

/-- A sum over the first `n` numbers whose terms carry a factor of sixty-four, with the factor drawn out. -/
theorem sum_sixtyFour {n : ℕ} (f : ℕ → EReal) (g : Fin n → EReal) (h : ∀ p : Fin n, f p.val = ((64 : ℝ) : EReal) * g p) :
    ∑ p ∈ range n, f p = ((64 : ℝ) : EReal) * ∑ p : Fin n, g p := by
  have hg : ∑ p : Fin n, g p = ∑ p ∈ range n, (fun k => if hk : k < n then g ⟨k, hk⟩ else 0) p := by
    rw [Finset.sum_range]
    exact Finset.sum_congr rfl fun p _ => by rw [dif_pos p.isLt]
  rw [hg, sixtyFour_mul_sum]
  refine Finset.sum_congr rfl fun k hk => ?_
  have hk' : k < n := mem_range.1 hk
  refine (h ⟨k, hk'⟩).trans ?_
  rw [dif_pos hk']

/-- The product over all entries is the product of the low nibbles with the even entries plus that of the high nibbles
    with the odd entries, both read as fp8, times sixty-four. -/
theorem product_eq (x : Fin 16384 → EReal) (w : Fin 8192 → BitVec 8) (s : Fin 1024 → EReal) :
    product x w s = ((∑ p : Fin 8192, x ⟨2 * p.val, by have := p.isLt; omega⟩
          * (Ideal.ofBits .fp8e4m3 (fp8Lo (w p)) * s ⟨p.val / 8, by have := p.isLt; omega⟩))
        + (∑ p : Fin 8192, x ⟨2 * p.val + 1, by have := p.isLt; omega⟩
          * (Ideal.ofBits .fp8e4m3 (fp8Hi (w p)) * s ⟨p.val / 8, by have := p.isLt; omega⟩))) * ((64 : ℝ) : EReal) := by
  unfold product
  refine (sum_even_odd (term x w s) 8192).trans ?_
  rw [sum_sixtyFour (fun p => term x w s (2 * p)) _ (term_even x w s),
    sum_sixtyFour (fun p => term x w s (2 * p + 1)) _ (term_odd x w s), mul_comm _ ((64 : ℝ) : EReal),
    EReal.left_distrib_of_nonneg_of_ne_top (by exact_mod_cast (by norm_num : (0 : ℝ) ≤ 64)) (EReal.coe_ne_top _)]

end Cert.Dequant

end
-- ==== Proof.Grid.lean ====
module

public import proofs.«01_k».proof.Proof.Step
public import proofs.«01_k».proof.Proof.Spec
public import proofs.«01_k».proof.Proof.Gen.KernelIdeal.Value
public import Idealize.ShloMosaic.Lib.Claim

@[expose] public section

set_option maxRecDepth 65536

noncomputable section

namespace Cert.KernelIdeal.Tile

open Cert.KernelIdeal Cert.KernelIdeal.Gen Cert.Dequant Idealize.ShloMosaic.ValueIdx Idealize.ShloMosaic.TcCoe
open Idealize.ShloMosaic hiding ix0 ix1 ix2 ix3 ix4
open Finset (range sum_range)

section Grid

variable (m : (ℓ : Loc nD τ sig) → Buf (Elt Ideal) ℓ) (c : Dev nD)

/-- Row `r` of the activations as launched. -/
def argX (r : Fin 8) (k : Fin 16384) : EReal :=
  (m ((c.tc : Thread nD τ).loc main_arg0) : (⟨S8x1x16384, .bf16⟩ : BufTy).Contents (Elt Ideal)) (ix3 r 0 k)

/-- Column `q` of the packed weights as launched. -/
def argW (q : Fin 13312) (p : Fin 8192) : BitVec 8 :=
  (m ((c.tc : Thread nD τ).loc main_arg1) : (⟨S8192x13312, .i8⟩ : BufTy).Contents (Elt Ideal)) (ix2 p q)

/-- Column `q` of the scales as launched. -/
def argS (q : Fin 13312) (b : Fin 1024) : EReal :=
  (m ((c.tc : Thread nD τ).loc main_arg2) : (⟨S1024x13312, .fp8e4m3⟩ : BufTy).Contents (Elt Ideal)) (ix2 b q)

/-- The global scale as launched. -/
def argG : EReal :=
  (m ((c.tc : Thread nD τ).loc main_arg3) : (⟨S_, .f32⟩ : BufTy).Contents (Elt Ideal)) ix0

/-- The grid reads: window 0 moves along the columns, windows 1 and 2 along the rows, by one block a point. -/
theorem index_facts : ∀ t : Fin cfg0.N, win0_0.index t (0 : Fin 2) = 0 ∧ win0_0.index t (1 : Fin 2) = t.val
    ∧ win0_1.index t (0 : Fin 2) = t.val ∧ win0_1.index t (1 : Fin 2) = 0
    ∧ win0_2.index t (0 : Fin 2) = t.val ∧ win0_2.index t (1 : Fin 2) = 0 ∧ win0_3.index t (0 : Fin 1) = 0 :=
  (by decide +kernel : ∀ t : Fin grid0.N, _)

/-- The block of activations at point `t`, by place. -/
theorem block_x (t : Fin cfg0.N) (r : Fin 8) (k : Fin 1024) (h : 1024 * t.val + k.val < 16384) :
    (iblk m c 0 t : Vec Ideal S8x1024 .bf16) (ix2 r k) = argX m c r ⟨1024 * t.val + k.val, h⟩ := by
  obtain ⟨e0, e1, -⟩ := index_facts t
  have hV : (V m c main_v0 : (⟨S8x16384, .bf16⟩ : BufTy).Contents (Elt Ideal))
      = shapeCast S8x16384 (m ((c.tc : Thread nD τ).loc main_arg0) : (⟨S8x1x16384, .bf16⟩ : BufTy).Contents (Elt Ideal))
          shapeCasts_S8x1x16384_S8x16384 := by
    unfold_abbrev_sides
    after_results
    try rfl
  show (V m c main_v0 : (⟨S8x16384, .bf16⟩ : BufTy).Contents (Elt Ideal)) _ = _
  rw [hV]
  refine shapeCast_apply _ shapeCasts_S8x1x16384_S8x16384 _ (ix3 r 0 ⟨1024 * t.val + k.val, h⟩) ?_
  rewrite [Shape.rowMajor_val_three, Shape.rowMajor_val_two]
  show (r.val * 1 + 0) * 16384 + (1024 * t.val + k.val)
    = (win0_0.index t (0 : Fin 2) * 8 + 1 * r.val) * 16384 + (win0_0.index t (1 : Fin 2) * 1024 + 1 * k.val)
  rw [e0, e1]
  omega

/-- The block of packed weights at point `t`, by place. -/
theorem block_w (t : Fin cfg0.N) (p : Fin 512) (q : Fin 13312) (h : 512 * t.val + p.val < 8192) :
    (iblk m c 1 t : Vec Ideal S512x13312 .i8) (ix2 p q) = argW m c q ⟨512 * t.val + p.val, h⟩ := by
  obtain ⟨-, -, e0, e1, -⟩ := index_facts t
  show (V m c main_arg1 : (⟨S8192x13312, .i8⟩ : BufTy).Contents (Elt Ideal)) _ = _
  rw [V_main_arg1]
  refine congrArg (m ((c.tc : Thread nD τ).loc main_arg1) : (⟨S8192x13312, .i8⟩ : BufTy).Contents (Elt Ideal)) (funext fun a => Fin.ext ?_)
  match a with
  | ⟨0, _⟩ =>
    show win0_1.index t (0 : Fin 2) * 512 + 1 * p.val = 512 * t.val + p.val
    rw [e0]; omega
  | ⟨1, _⟩ =>
    show win0_1.index t (1 : Fin 2) * 13312 + 1 * q.val = q.val
    rw [e1]; omega

/-- The block of scales at point `t`, by place. -/
theorem block_s (t : Fin cfg0.N) (b : Fin 64) (q : Fin 13312) (h : 64 * t.val + b.val < 1024) :
    ((iblk m c 2 t : Vec Ideal S64x13312 .fp8e4m3) (ix2 b q) : EReal) = argS m c q ⟨64 * t.val + b.val, h⟩ := by
  obtain ⟨-, -, -, -, e0, e1, -⟩ := index_facts t
  show (V m c main_arg2 : (⟨S1024x13312, .fp8e4m3⟩ : BufTy).Contents (Elt Ideal)) _ = _
  rw [V_main_arg2]
  refine congrArg (m ((c.tc : Thread nD τ).loc main_arg2) : (⟨S1024x13312, .fp8e4m3⟩ : BufTy).Contents (Elt Ideal)) (funext fun a => Fin.ext ?_)
  match a with
  | ⟨0, _⟩ =>
    show win0_2.index t (0 : Fin 2) * 64 + 1 * b.val = 64 * t.val + b.val
    rw [e0]; omega
  | ⟨1, _⟩ =>
    show win0_2.index t (1 : Fin 2) * 13312 + 1 * q.val = q.val
    rw [e1]; omega

/-- The global scale, as every point finds it. -/
theorem block_g (t : Fin cfg0.N) : ((iblk m c 3 t : Vec Ideal S1 .f32) (ix1 0) : EReal) = argG m c := by
  have hV : (V m c main_v1 : (⟨S1, .f32⟩ : BufTy).Contents (Elt Ideal))
      = shapeCast S1 (m ((c.tc : Thread nD τ).loc main_arg3) : (⟨S_, .f32⟩ : BufTy).Contents (Elt Ideal)) shapeCasts_S_S1 := by
    unfold_abbrev_sides
    after_results
    try rfl
  show (V m c main_v1 : (⟨S1, .f32⟩ : BufTy).Contents (Elt Ideal)) _ = _
  rw [hV]
  refine congrArg (m ((c.tc : Thread nD τ).loc main_arg3) : (⟨S_, .f32⟩ : BufTy).Contents (Elt Ideal)) (funext fun a => a.elim0)

/-- What point `t` adds to entry `(r, q)`: the terms of its 1024 entries. -/
theorem stretch_eq (t : Fin cfg0.N) (r : Fin 8) (q : Fin 13312) :
    stretch (iblk m c 0 t) (iblk m c 1 t) (iblk m c 2 t) r q
      = ∑ j ∈ range 1024, term (argX m c r) (argW m c q) (argS m c q) (1024 * t.val + j) := by
  have ht : t.val < 16 := lt_of_lt_of_eq t.isLt N_0
  rw [sum_range]
  refine Finset.sum_congr rfl fun k _ => ?_
  have hk := k.isLt
  unfold term weight
  rw [dif_pos (show 1024 * t.val + k.val < 16384 by omega), block_x m c t r k (by omega),
    block_w m c t ⟨k.val / 2, by omega⟩ q (by show 512 * t.val + k.val / 2 < 8192; omega),
    block_s m c t ⟨k.val / 16, by omega⟩ q (by show 64 * t.val + k.val / 16 < 1024; omega)]
  have hw : (⟨512 * t.val + k.val / 2, by omega⟩ : Fin 8192) = ⟨(1024 * t.val + k.val) / 2, by omega⟩ := Fin.ext (by
    show 512 * t.val + k.val / 2 = (1024 * t.val + k.val) / 2; omega)
  have hs : (⟨64 * t.val + k.val / 16, by omega⟩ : Fin 1024) = ⟨(1024 * t.val + k.val) / 16, by omega⟩ := Fin.ext (by
    show 64 * t.val + k.val / 16 = (1024 * t.val + k.val) / 16; omega)
  have hc : ∀ v : BitVec 8, code v k.val = code v (1024 * t.val + k.val) := fun v => by
    unfold code
    rw [show (1024 * t.val + k.val) % 2 = k.val % 2 by omega]
  rw [hc, ← hw, ← hs]

/-- After point `n`, before the last, the accumulator holds the terms of the first `1024 (n + 1)` entries. -/
theorem acc_eq (r : Fin 8) (q : Fin 13312) : ∀ (n : ℕ) (hn : n < cfg0.N), n < 15 →
    ((outsAt0 m c n hn).2 (ix2 r q) : EReal)
      = ∑ k ∈ range (1024 * (n + 1)), term (argX m c r) (argW m c q) (argS m c q) k := by
  intro n
  induction n with
  | zero =>
    intro hn _
    have e := congrArg Prod.snd (outsAt0_A m c ⟨0, hn⟩ (by show 0 % 16 = 0; decide) (by show ¬ 0 % 16 = 15; decide))
    refine (congrFun e (ix2 r q)).trans ?_
    refine (sout_A c _ _ _ _ _ _ _ _ _ _ _ _ _ _ _ _ _ _ _ _ r q).trans ((stretch_eq m c ⟨0, hn⟩ r q).trans ?_)
    refine Eq.trans ?_ (sum_stretches (term (argX m c r) (argW m c q) (argS m c q)) 0)
    rw [Nat.mul_zero, Finset.range_zero, Finset.sum_empty, zero_add]
  | succ n ih =>
    intro hn h15
    have e := congrArg Prod.snd (outsAt0_B m c ⟨n + 1, hn⟩ (by show ¬ (n + 1) % 16 = 0; omega) (by show ¬ (n + 1) % 16 = 15; omega))
    refine (congrFun e (ix2 r q)).trans ?_
    refine (sout_B c _ _ _ _ _ _ _ _ _ _ _ _ _ _ _ _ _ _ _ _ _ r q).trans ?_
    rw [stretch_eq m c ⟨n + 1, hn⟩ r q, ← sum_stretches _ (n + 1)]
    exact congrArg (fun v : EReal => v + _) (ih (Nat.lt_of_succ_lt hn) (by omega))

/-- What the last point writes out at entry `(r, q)`: the product of the row with the decoded column, times the global
    scale. -/
theorem last_apply (t : Fin cfg0.N) (ht : t.val = 15) (r : Fin 8) (q : Fin 13312) :
    ((outsAt0 m c t.val t.isLt).1 (ix2 r q) : EReal) = product (argX m c r) (argW m c q) (argS m c q) * argG m c := by
  rw [outsAt0_C m c t (by omega) (by omega)]
  dsimp only
  rw [out_C]
  rw [stretch_eq m c t r q, block_g m c t, acc_eq m c r q (t.val - 1) _ (by omega), show t.val - 1 + 1 = t.val by omega,
    sum_stretches, ht, show 1024 * (15 + 1) = 16384 by norm_num]
  unfold product
  rfl

/-- The result of the kernel at entry `(r, q)`. -/
theorem result_apply (r : Fin 8) (q : Fin 13312) :
    (Value.G4 m c : (⟨S8x13312, .bf16⟩ : BufTy).Contents (Elt Ideal)) (ix2 r q)
      = (product (argX m c r) (argW m c q) (argS m c q) * argG m c : EReal) := by
  rw [Value.G4_last, ← Value.outsAt0_sweep m c 15 (lt_of_lt_of_eq (by decide) N_0.symm)]
  exact last_apply m c ⟨15, lt_of_lt_of_eq (by decide) N_0.symm⟩ rfl r q

end Grid

end Cert.KernelIdeal.Tile

end
-- ==== Proof.Weights.lean ====
module

public import proofs.«01_k».proof.Proof.Spec
public import proofs.«01_k».proof.Proof.Gen.ReferenceIdeal.Run
public import proofs.«01_k».proof.Proof.Gen.ReferenceIdeal.Read
public import Idealize.ShloMosaic.Lib.Pipeline.ValueKit

@[expose] public section

set_option maxRecDepth 65536

noncomputable section

namespace Cert.ReferenceIdeal.Weights

open Cert.ReferenceIdeal Cert.ReferenceIdeal.Gen Cert.Dequant Idealize.ShloMosaic.ValueIdx Idealize.ShloMosaic.TcCoe
open Idealize.ShloMosaic hiding ix0 ix1 ix2 ix3 ix4

/-- The reshape to blocks of eight byte rows, the product with the block's scale and the reshape back, by place: each
    entry times the scale of its block. -/
theorem scaled_apply (v : FVec Ideal S8192x13312 .bf16) (s : FVec Ideal S1024x13312 .bf16) (p : Fin 8192) (q : Fin 13312) :
    shapeCast S8192x13312 (mulf (shapeCast S1024x8x13312 v shapeCasts_S8192x13312_S1024x8x13312)
        (broadcastTo S1024x8x13312 (shapeCast S1024x1x13312 s shapeCasts_S1024x13312_S1024x1x13312) broadcasts_S1024x1x13312_S1024x8x13312))
        shapeCasts_S1024x8x13312_S8192x13312 (ix2 p q)
      = (v (ix2 p q) * s (ix2 ⟨p.val / 8, by have := p.isLt; omega⟩ q) : EReal) := by
  have hp := p.isLt
  refine (shapeCast_apply _ shapeCasts_S1024x8x13312_S8192x13312 (ix2 p q)
    (ix3 ⟨p.val / 8, by omega⟩ ⟨p.val % 8, by omega⟩ q) ?_).trans ?_
  · rewrite [Shape.rowMajor_val_three, Shape.rowMajor_val_two]
    show (p.val / 8 * 8 + p.val % 8) * 13312 + q.val = p.val * 13312 + q.val
    omega
  refine congrArg₂ (fun a b : EReal => a * b) ?_ ?_
  · refine shapeCast_apply v shapeCasts_S8192x13312_S1024x8x13312 _ (ix2 p q) ?_
    rewrite [Shape.rowMajor_val_three, Shape.rowMajor_val_two]
    show p.val * 13312 + q.val = (p.val / 8 * 8 + p.val % 8) * 13312 + q.val
    omega
  · refine (broadcastTo_apply _ broadcasts_S1024x1x13312_S1024x8x13312 _ (ix3 ⟨p.val / 8, by omega⟩ 0 q) ?_).trans ?_
    · intro a
      match a with
      | ⟨0, _⟩ => rfl
      | ⟨1, _⟩ => rfl
      | ⟨2, _⟩ => rfl
    · refine shapeCast_apply s shapeCasts_S1024x13312_S1024x1x13312 _ (ix2 ⟨p.val / 8, by omega⟩ q) ?_
      rewrite [Shape.rowMajor_val_three, Shape.rowMajor_val_two]
      show p.val / 8 * 13312 + q.val = (p.val / 8 * 1 + 0) * 13312 + q.val
      omega

/-- The weights of the low nibbles, by place. -/
theorem low_apply (s : Vec Ideal S1024x13312 .fp8e4m3) (w : Vec Ideal S8192x13312 .i8) (p : Fin 8192) (q : Fin 13312) :
    k0_pay3 s w (ix2 p q)
      = (Ideal.ofBits .fp8e4m3 (fp8Lo (w (ix2 p q))) * s (ix2 ⟨p.val / 8, by have := p.isLt; omega⟩ q) : EReal) := by
  unfold k0_pay3
  exact scaled_apply _ _ p q

/-- The weights of the high nibbles, by place. -/
theorem high_apply (s : Vec Ideal S1024x13312 .fp8e4m3) (w : Vec Ideal S8192x13312 .i8) (p : Fin 8192) (q : Fin 13312) :
    k0_pay4 s w (ix2 p q)
      = (Ideal.ofBits .fp8e4m3 (fp8Hi (w (ix2 p q))) * s (ix2 ⟨p.val / 8, by have := p.isLt; omega⟩ q) : EReal) := by
  unfold k0_pay4
  exact scaled_apply _ _ p q

variable (m : (ℓ : Loc nD τ sig) → Buf (Elt Ideal) ℓ) (c : Dev nD)

/-- The one point's block of packed bytes is the array as launched. -/
theorem block_w (t : Fin cfg0.N) : (iblk m c 0 t : Vec Ideal S8192x13312 .i8) = m ((c.tc : Thread nD τ).loc main_arg1) := by
  funext y
  refine congrArg (m ((c.tc : Thread nD τ).loc main_arg1) : (⟨S8192x13312, .i8⟩ : BufTy).Contents (Elt Ideal)) (funext fun a => Fin.ext ?_)
  match a with
  | ⟨0, _⟩ => show 0 * 8192 + 1 * (y 0).val = (y 0).val; omega
  | ⟨1, _⟩ => show 0 * 13312 + 1 * (y 1).val = (y 1).val; omega

/-- The one point's block of scales is the array as launched. -/
theorem block_s (t : Fin cfg0.N) : (iblk m c 1 t : Vec Ideal S1024x13312 .fp8e4m3) = m ((c.tc : Thread nD τ).loc main_arg2) := by
  funext y
  refine congrArg (m ((c.tc : Thread nD τ).loc main_arg2) : (⟨S1024x13312, .fp8e4m3⟩ : BufTy).Contents (Elt Ideal)) (funext fun a => Fin.ext ?_)
  match a with
  | ⟨0, _⟩ => show 0 * 1024 + 1 * (y 0).val = (y 0).val; omega
  | ⟨1, _⟩ => show 0 * 13312 + 1 * (y 1).val = (y 1).val; omega

/-- A load of the whole array of bytes reads it. -/
theorem ld_w (x : Vec Ideal S8192x13312 .i8) : View.ld x r0_1 = x :=
  View.ld_unit_zero (funext fun a => by match a with | ⟨0, _⟩ => rfl | ⟨1, _⟩ => rfl) _ x

/-- A load of the whole array of scales reads it. -/
theorem ld_s (x : Vec Ideal S1024x13312 .fp8e4m3) : View.ld x r0_0 = x :=
  View.ld_unit_zero (funext fun a => by match a with | ⟨0, _⟩ => rfl | ⟨1, _⟩ => rfl) _ x

/-- The array of low weights that the call leaves. -/
theorem low_eq : Value.reg_main_v0_0 m c
    = (k0_pay3 (m ((c.tc : Thread nD τ).loc main_arg2)) (m ((c.tc : Thread nD τ).loc main_arg1)) : FVec Ideal S8192x13312 .bf16) := by
  unfold Value.reg_main_v0_0
  refine (dats m 0 c).arrAt_eq_of_after_last 2 t0_0 (by decide +kernel) _ fun j => ?_
  rw [after0_2, block_w, block_s]
  unfold out0_2
  rw [ld_w, ld_s, View.canon_unit_zero (funext fun a => by match a with | ⟨0, _⟩ => rfl | ⟨1, _⟩ => rfl)]
  blk_simp

/-- The array of high weights that the call leaves. -/
theorem high_eq : Value.reg_main_v0_1 m c
    = (k0_pay4 (m ((c.tc : Thread nD τ).loc main_arg2)) (m ((c.tc : Thread nD τ).loc main_arg1)) : FVec Ideal S8192x13312 .bf16) := by
  unfold Value.reg_main_v0_1
  refine (dats m 0 c).arrAt_eq_of_after_last 3 t0_0 (by decide +kernel) _ fun j => ?_
  rw [after0_3, block_w, block_s]
  unfold out0_3
  rw [ld_w, ld_s, View.canon_unit_zero (funext fun a => by match a with | ⟨0, _⟩ => rfl | ⟨1, _⟩ => rfl)]
  blk_simp

end Cert.ReferenceIdeal.Weights

end
-- ==== Proof.Plain.lean ====
module

public import proofs.«01_k».proof.Proof.Weights

@[expose] public section

set_option maxRecDepth 65536

noncomputable section

namespace Cert.ReferenceIdeal.Plain

open Cert.ReferenceIdeal Cert.ReferenceIdeal.Gen Cert.ReferenceIdeal.Read Cert.Dequant Idealize.ShloMosaic.ValueIdx Idealize.ShloMosaic.TcCoe
open Idealize.ShloMosaic hiding ix0 ix1 ix2 ix3 ix4

/-- The even entries of row `r` are those the first slice takes. -/
theorem even_apply (x : (⟨S8x1x16384, .bf16⟩ : BufTy).Contents (Elt Ideal)) (r : Fin 8) (p : Fin 8192) :
    (val_main_v1 (F := Ideal) x (ix3 r 0 p) : EReal) = x (ix3 r 0 ⟨2 * p.val, by have := p.isLt; omega⟩) := by
  unfold val_main_v1
  refine congrArg x (funext fun a => Fin.ext ?_)
  match a with
  | ⟨0, _⟩ => show 0 + 1 * r.val = r.val; omega
  | ⟨1, _⟩ => rfl
  | ⟨2, _⟩ => show 0 + 2 * p.val = 2 * p.val; omega

/-- The odd entries of row `r` are those the second slice takes. -/
theorem odd_apply (x : (⟨S8x1x16384, .bf16⟩ : BufTy).Contents (Elt Ideal)) (r : Fin 8) (p : Fin 8192) :
    (val_main_v3 (F := Ideal) x (ix3 r 0 p) : EReal) = x (ix3 r 0 ⟨2 * p.val + 1, by have := p.isLt; omega⟩) := by
  unfold val_main_v3
  refine congrArg x (funext fun a => Fin.ext ?_)
  match a with
  | ⟨0, _⟩ => show 0 + 1 * r.val = r.val; omega
  | ⟨1, _⟩ => rfl
  | ⟨2, _⟩ => show 1 + 2 * p.val = 2 * p.val + 1; omega

/-- The reference at entry `(r, q)`, over the two arrays of weights: the two sums, times sixty-four, times the global
    scale. -/
theorem plain_apply (x : (⟨S8x1x16384, .bf16⟩ : BufTy).Contents (Elt Ideal)) (g : (⟨S_, .f32⟩ : BufTy).Contents (Elt Ideal))
    (lo hi : (⟨S8192x13312, .bf16⟩ : BufTy).Contents (Elt Ideal)) (r : Fin 8) (q : Fin 13312) :
    (val_main_v11 (F := Ideal) x g lo hi (ix2 r q) : EReal)
      = (((∑ p : Fin 8192, (x (ix3 r 0 ⟨2 * p.val, by have := p.isLt; omega⟩) : EReal) * lo (ix2 p q))
          + (∑ p : Fin 8192, (x (ix3 r 0 ⟨2 * p.val + 1, by have := p.isLt; omega⟩) : EReal) * hi (ix2 p q)))
          * ((64 : ℝ) : EReal)) * (g ix0 : EReal) := by
  have hr := r.isLt
  have hq := q.isLt
  have hi' : idx_main_v11 (ix2 r q) = ix3 r 0 q := funext fun a => Fin.ext (by
    match a with
    | ⟨0, _⟩ => show (r.val * 13312 + q.val) / 13312 = r.val; omega
    | ⟨1, _⟩ => rfl
    | ⟨2, _⟩ => show (r.val * 13312 + q.val) % 13312 = q.val; omega)
  rw [val_main_v11_apply, hi', val_main_v10_apply, val_main_v9_apply, val_main_v7_apply, val_main_v5_apply, val_main_v8_apply,
    val_main_v6_apply, val_main_cst_apply]
  refine congrArg₂ (fun a b : EReal => a * b) (congrArg₂ (fun a b : EReal => a * b) (congrArg₂ (fun a b : EReal => a + b) ?_ ?_)
    sixtyFour_eq) (congrArg g (funext fun a => a.elim0))
  · rw [val_main_v2_apply]
    refine Finset.sum_congr rfl fun p _ => ?_
    refine congrArg₂ (fun a b : EReal => a * b) ((congrArg (val_main_v1 (F := Ideal) x) (funext fun a => Fin.ext ?_)).trans (even_apply x r p))
      (congrArg lo (funext fun a => Fin.ext ?_))
    · match a with
      | ⟨0, _⟩ => rfl
      | ⟨1, _⟩ => rfl
      | ⟨2, _⟩ => rfl
    · match a with
      | ⟨0, _⟩ => rfl
      | ⟨1, _⟩ => rfl
  · rw [val_main_v4_apply]
    refine Finset.sum_congr rfl fun p _ => ?_
    refine congrArg₂ (fun a b : EReal => a * b) ((congrArg (val_main_v3 (F := Ideal) x) (funext fun a => Fin.ext ?_)).trans (odd_apply x r p))
      (congrArg hi (funext fun a => Fin.ext ?_))
    · match a with
      | ⟨0, _⟩ => rfl
      | ⟨1, _⟩ => rfl
      | ⟨2, _⟩ => rfl
    · match a with
      | ⟨0, _⟩ => rfl
      | ⟨1, _⟩ => rfl

/-- The reference's result at entry `(r, q)`, over the four arguments. -/
theorem reference_apply (x : (⟨S8x1x16384, .bf16⟩ : BufTy).Contents (Elt Ideal)) (w : Vec Ideal S8192x13312 .i8)
    (s : Vec Ideal S1024x13312 .fp8e4m3) (g : (⟨S_, .f32⟩ : BufTy).Contents (Elt Ideal)) (r : Fin 8) (q : Fin 13312) :
    (val_main_v11 (F := Ideal) x g (k0_pay3 s w) (k0_pay4 s w) (ix2 r q) : EReal)
      = product (fun k => x (ix3 r 0 k)) (fun p => w (ix2 p q)) (fun b => s (ix2 b q)) * (g ix0 : EReal) := by
  rw [plain_apply, product_eq]
  simp only [Weights.low_apply, Weights.high_apply]

end Cert.ReferenceIdeal.Plain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Grid
public import proofs.«01_k».proof.Proof.Plain
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- What the idealized kernel assumes of packed words, at each shape it packs: the two halves of a word are its two
    bf16 rows. -/
theorem preserves : preserves_Kernel_KernelIdeal :=
  ⟨IdealRules.bf16_pair.bufferStatement _ _ KernelIdeal.Gen.facts.bitcasts_S104x64x2x128_w16_S104x64x1x128_w32,
    IdealRules.bf16_pair.packStatement _,
    IdealRules.bf16_pair.statement _ _ KernelIdeal.Gen.facts.bitcasts_S1x64x2x128_w16_S1x64x1x128_w32,
    IdealRules.bf16_pair.packStatement _,
    IdealRules.bf16_pair.statement _ _ KernelIdeal.Gen.facts.bitcasts_S1024x128_w16_S512x128_w32,
    IdealRules.bf16_pair.statement _ _ KernelIdeal.Gen.facts.bitcasts_S1x1x2x128_w16_S1x1x1x128_w32,
    IdealRules.bf16_pair.statement _ _ KernelIdeal.Gen.facts.bitcasts_S16x128_w16_S8x128_w32⟩

/-- Launched on the same four arguments, the reference's result is the kernel's. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3)) :
    ReferenceIdeal.Read.val_main_v11 (F := Ideal) (m' ((c.tc : Thread ReferenceIdeal.nD ReferenceIdeal.τ).loc ReferenceIdeal.main_arg0))
        (m' ((c.tc : Thread ReferenceIdeal.nD ReferenceIdeal.τ).loc ReferenceIdeal.main_arg3))
        (ReferenceIdeal.Value.reg_main_v0_0 m' c) (ReferenceIdeal.Value.reg_main_v0_1 m' c)
      = KernelIdeal.Value.G4 m c := by
  rw [ReferenceIdeal.Weights.low_eq, ReferenceIdeal.Weights.high_eq, h0, h1, h2, h3]
  funext j
  obtain ⟨r, q, rfl⟩ : ∃ (r : Fin 8) (q : Fin 13312), j = ValueIdx.ix2 r q :=
    ⟨j 0, j 1, funext fun a => by match a with | ⟨0, _⟩ => rfl | ⟨1, _⟩ => rfl⟩
  exact (ReferenceIdeal.Plain.reference_apply _ _ _ _ r q).trans (KernelIdeal.Tile.result_apply m c r q).symm

/-- The kernel and the plain product end with the same result, over the extended reals. -/
theorem algebraic : algebraic_KernelIdeal_ReferenceIdeal (hKernelIdeal := KernelIdeal.Gen.facts)
    (hReferenceIdeal := ReferenceIdeal.Gen.facts) := by
  intro m g m' g' _ h
  refine ⟨KernelIdeal.Value.G4 m, KernelIdeal.Value.run m g, ?_⟩
  refine (θ_run _ _ _).mono (fun _ hr c => ⟨(hr c).1.trans ?_, (hr c).2⟩) (ReferenceIdeal.Value.run m' g')
  exact same m m' c (h c).1 (h c).2.1 (h c).2.2.1 (h c).2.2.2

/-- The five claims: the three programs run to a quiescent end, the rewrite keeps its words' meaning, and the kernel's
    result is the plain product. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, preserves, algebraic⟩

end Cert.Proof

end
